-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qkv.lean ====
abbrev S16384x8192 : Shape := ⟨2, ![16384, 8192]⟩
abbrev S4x128 : Shape := ⟨2, ![4, 128]⟩
abbrev S16384x1536 : Shape := ⟨2, ![16384, 1536]⟩
abbrev S_ : Shape := ⟨0, ![]⟩

class Facts : Prop where
  slices_S16384x8192_S16384x1536_0_6144 : S16384x8192.Slices ![0, 6144] S16384x1536
  bitsLt_bf16_f32 : FTy.bits .bf16 < FTy.bits .f32
  bcast_S_S16384x1536 : S_.BroadcastsInDim S16384x1536 (![] : Fin 0 → Fin S16384x1536.rank)

variable [Facts]

def fn {F : FTy → Type} [FloatOps F] (main_arg0 : FVec F S16384x8192 .bf16) (main_arg1 : FVec F S4x128 .f32) : IVec S16384x1536 1 :=
  let main_v0 : FVec F S16384x1536 .bf16 := (extractStridedSlice S16384x1536 ![0, 6144] · slices_S16384x8192_S16384x1536_0_6144) main_arg0
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  main_v4
-- ==== Kernel.lean ====
abbrev S16384x8192 : Shape := ⟨2, ![16384, 8192]⟩
abbrev S4x128 : Shape := ⟨2, ![4, 128]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S16384x512 : Shape := ⟨2, ![16384, 512]⟩
abbrev S1024x512 : Shape := ⟨2, ![1024, 512]⟩
abbrev S4x128x128 : Shape := ⟨3, ![4, 128, 128]⟩
abbrev S256x128 : Shape := ⟨2, ![256, 128]⟩
abbrev S1x256x128 : Shape := ⟨3, ![1, 256, 128]⟩
abbrev S128x128 : Shape := ⟨2, ![128, 128]⟩
abbrev S1x128x128 : Shape := ⟨3, ![1, 128, 128]⟩
abbrev S1x128 : Shape := ⟨2, ![1, 128]⟩

abbrev nBuf : Space → Nat
  | .hbm => 63
  | .vmem => 15
  | .smem => 0
  | _ => 0

abbrev bufTy : (tb : Table) → Fin (tcTables nBuf tb) → BufTy
  | .hbm, ⟨0, _⟩ => ⟨S16384x8192, .bf16⟩
  | .hbm, ⟨1, _⟩ => ⟨S4x128, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S256, .f32⟩
  | .hbm, ⟨12, _⟩ => ⟨S256x1, .f32⟩
  | .hbm, ⟨13, _⟩ => ⟨S1x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .i1⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S4x1x1, .f32⟩
  | .hbm, ⟨24, _⟩ => ⟨S1x256x256, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S_, .f32⟩
  | .hbm, ⟨30, _⟩ => ⟨S_, .f32⟩
  | .hbm, ⟨31, _⟩ => ⟨S4x256x256, .i1⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S1x256, .f32⟩
  | .hbm, ⟨41, _⟩ => ⟨S4x1, .f32⟩
  | .hbm, ⟨42, _⟩ => ⟨S4x256, .f32⟩
  | .hbm, ⟨43, _⟩ => ⟨S4x256, .f32⟩
  | .hbm, ⟨44, _⟩ => ⟨S4x256, .f32⟩
  | .hbm, ⟨45, _⟩ => ⟨S4x256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S4x1, .f32⟩
  | .hbm, ⟨51, _⟩ => ⟨S4x256, .f32⟩
  | .hbm, ⟨52, _⟩ => ⟨S4x256, .f32⟩
  | .hbm, ⟨53, _⟩ => ⟨S4x256, .f32⟩
  | .hbm, ⟨54, _⟩ => ⟨S4x256, .f32⟩
  | .hbm, ⟨55, _⟩ => ⟨S_, .f32⟩
  | .hbm, ⟨56, _⟩ => ⟨S4x256, .f32⟩
  | .hbm, ⟨57, _⟩ => ⟨S4x256, .f32⟩
  | .hbm, ⟨58, _⟩ => ⟨S4x256x1, .f32⟩
  | .hbm, ⟨59, _⟩ => ⟨S4x256x128, .f32⟩
  | .hbm, ⟨60, _⟩ => ⟨S4x256x1, .f32⟩
  | .hbm, ⟨61, _⟩ => ⟨S4x256x128, .f32⟩
  | .hbm, ⟨62, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S4x256x256, .f32⟩
  | .local _ .vmem, ⟨9, _⟩ => ⟨S4x256x128, .f32⟩
  | .local _ .vmem, ⟨10, _⟩ => ⟨S4x256x128, .f32⟩
  | .local _ .vmem, ⟨11, _⟩ => ⟨S4x128, .f32⟩
  | .local _ .vmem, ⟨12, _⟩ => ⟨S1024x512, .bf16⟩
  | .local _ .vmem, ⟨13, _⟩ => ⟨S1024x512, .bf16⟩
  | .local _ .vmem, ⟨14, _⟩ => ⟨S4x128x128, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c12_i32 : BitVec 32 := 12#32
  let c0_i32 : BitVec 32 := 0#32
  ![v1.toNat, c12_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c13_i32 : BitVec 32 := 13#32
  let c0_i32 : BitVec 32 := 0#32
  ![v1.toNat, c13_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c14_i32 : BitVec 32 := 14#32
  let c0_i32 : BitVec 32 := 0#32
  ![v1.toNat, c14_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let c0_i32 : BitVec 32 := 0#32
  ![v1.toNat, c15_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== ReferenceIdeal.lean ====
abbrev S16384x8192 : Shape := ⟨2, ![16384, 8192]⟩
abbrev S4x128 : Shape := ⟨2, ![4, 128]⟩
abbrev S2x8192x8192 : Shape := ⟨3, ![2, 8192, 8192]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S_ : Shape := ⟨0, ![]⟩
abbrev S2x4x64x128x128 : Shape := ⟨5, ![2, 4, 64, 128, 128]⟩
abbrev S4 : Shape := ⟨1, ![4]⟩
abbrev S4x1 : Shape := ⟨2, ![4, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S1x4x1x128x1 : Shape := ⟨5, ![1, 4, 1, 128, 1]⟩
abbrev S64x2x4x128x128 : Shape := ⟨5, ![64, 2, 4, 128, 128]⟩
abbrev S2x4x128x128 : Shape := ⟨4, ![2, 4, 128, 128]⟩
abbrev S1x2x4x128x128 : Shape := ⟨5, ![1, 2, 4, 128, 128]⟩
abbrev S1x4x1x1 : Shape := ⟨4, ![1, 4, 1, 1]⟩
abbrev S4x1x128 : Shape := ⟨3, ![4, 1, 128]⟩
abbrev S2x4x8192 : Shape := ⟨3, ![2, 4, 8192]⟩
abbrev S2x4x8192x1 : Shape := ⟨4, ![2, 4, 8192, 1]⟩
abbrev S1x4x1x128 : Shape := ⟨4, ![1, 4, 1, 128]⟩
abbrev S16384x512 : Shape := ⟨2, ![16384, 512]⟩

abbrev nBuf : Space → Nat
  | .hbm => 150
  | .vmem => 0
  | .smem => 0
  | _ => 0

abbrev hbmTy0_0 (i : Nat) : BufTy := match i % 128 with
  | 0 => ⟨S16384x8192, .bf16⟩
  | 1 => ⟨S4x128, .f32⟩
  | 2 => ⟨S16384x8192, .f32⟩
  | 3 => ⟨S2x8192x8192, .f32⟩
  | 4 => ⟨S2x8192x512, .f32⟩
  | 5 => ⟨S2x8192x512, .f32⟩
  | 6 => ⟨S2x8192x512, .f32⟩
  | 7 => ⟨S2x8192x512, .f32⟩
  | 8 => ⟨S2x8192x4x128, .f32⟩
  | 9 => ⟨S2x4x8192x128, .f32⟩
  | 10 => ⟨S2x8192x4x128, .f32⟩
  | 11 => ⟨S2x4x8192x128, .f32⟩
  | 12 => ⟨S_, .f32⟩
  | 13 => ⟨S2x4x8192x128, .f32⟩
  | 14 => ⟨S2x4x8192x128, .f32⟩
  | 15 => ⟨S2x8192x4x128, .f32⟩
  | 16 => ⟨S2x4x8192x128, .f32⟩
  | 17 => ⟨S2x4x64x128x128, .f32⟩
  | 18 => ⟨S2x4x64x128x128, .f32⟩
  | 19 => ⟨S2x4x64x128x128, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S4, .f32⟩
  | 28 => ⟨S4, .f32⟩
  | 29 => ⟨S4x1, .f32⟩
  | 30 => ⟨S128, .f32⟩
  | 31 => ⟨S128x1, .f32⟩
  | 32 => ⟨S1x128, .f32⟩
  | 33 => ⟨S128x128, .f32⟩
  | 34 => ⟨S128x128, .f32⟩
  | 35 => ⟨S128x128, .f32⟩
  | 36 => ⟨S_, .f32⟩
  | 37 => ⟨S128x128, .f32⟩
  | 38 => ⟨S128x128, .i1⟩
  | 39 => ⟨S_, .f32⟩
  | 40 => ⟨S128x128, .f32⟩
  | 41 => ⟨S128x128, .f32⟩
  | 42 => ⟨S4x1x1, .f32⟩
  | 43 => ⟨S1x128x128, .f32⟩
  | 44 => ⟨S4x128x128, .f32⟩
  | 45 => ⟨S4x128x128, .f32⟩
  | 46 => ⟨S4x128x128, .f32⟩
  | 47 => ⟨S4x128x128, .f32⟩
  | 48 => ⟨S_, .f32⟩
  | 49 => ⟨S_, .f32⟩
  | 50 => ⟨S4x128x128, .i1⟩
  | 51 => ⟨S4x128x128, .f32⟩
  | 52 => ⟨S4x128x128, .f32⟩
  | 53 => ⟨S2x4x64x128x128, .f32⟩
  | 54 => ⟨S1x4x1x128x128, .f32⟩
  | 55 => ⟨S2x4x64x128x128, .f32⟩
  | 56 => ⟨S2x4x64x128x128, .f32⟩
  | 57 => ⟨S2x4x64x128x128, .f32⟩
  | 58 => ⟨S_, .f32⟩
  | 59 => ⟨S128, .f32⟩
  | 60 => ⟨S128, .f32⟩
  | 61 => ⟨S1x128, .f32⟩
  | 62 => ⟨S4x128, .f32⟩
  | 63 => ⟨S4x128, .f32⟩
  | 64 => ⟨S4x128, .f32⟩
  | 65 => ⟨S4x128, .f32⟩
  | 66 => ⟨S1x4x1x128x1, .f32⟩
  | 67 => ⟨S2x4x64x128x128, .f32⟩
  | 68 => ⟨S2x4x64x128x128, .f32⟩
  | 69 => ⟨S64x2x4x128x128, .f32⟩
  | 70 => ⟨S_, .f32⟩
  | 71 => ⟨S4x1, .f32⟩
  | 72 => ⟨S4x1, .f32⟩
  | 73 => ⟨S4x1, .f32⟩
  | 74 => ⟨S4x1x1, .f32⟩
  | 75 => ⟨S_, .f32⟩
  | 76 => ⟨S2x4x128x128, .f32⟩
  | 77 => ⟨S_, .f32⟩
  | 78 => ⟨S64x2x4x128x128, .f32⟩
  | 79 => ⟨S_, .i32⟩
  | 80 => ⟨S64x2x4x128x128, .f32⟩
  | 81 => ⟨S4x1x1, .f32⟩
  | 82 => ⟨S_, .i32⟩
  | 83 => ⟨S2x4x128x128, .f32⟩
  | 84 => ⟨S64x2x4x128x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x2x4x128x128, .f32⟩
  | 92 => ⟨S2x4x128x128, .f32⟩
  | 93 => ⟨S1x4x1x1, .f32⟩
  | 94 => ⟨S2x4x128x128, .f32⟩
  | 95 => ⟨S2x4x128x128, .f32⟩
  | 96 => ⟨S2x4x128x128, .f32⟩
  | 97 => ⟨S1x2x4x128x128, .f32⟩
  | 98 => ⟨S_, .i32⟩
  | 99 => ⟨S_, .i32⟩
  | 100 => ⟨S_, .i32⟩
  | 101 => ⟨S_, .i32⟩
  | 102 => ⟨S64x2x4x128x128, .f32⟩
  | 103 => ⟨S_, .i32⟩
  | 104 => ⟨S_, .i32⟩
  | 105 => ⟨S_, .f32⟩
  | 106 => ⟨S128, .f32⟩
  | 107 => ⟨S128, .f32⟩
  | 108 => ⟨S1x128, .f32⟩
  | 109 => ⟨S4x128, .f32⟩
  | 110 => ⟨S4x128, .f32⟩
  | 111 => ⟨S4x128, .f32⟩
  | 112 => ⟨S4x128, .f32⟩
  | 113 => ⟨S1x4x1x128x1, .f32⟩
  | 114 => ⟨S2x4x64x128x128, .f32⟩
  | 115 => ⟨S2x4x64x128x128, .f32⟩
  | 116 => ⟨S2x4x64x128x128, .f32⟩
  | 117 => ⟨S2x4x64x128x128, .f32⟩
  | 118 => ⟨S2x4x8192x128, .f32⟩
  | 119 => ⟨S4x1x128, .f32⟩
  | 120 => ⟨S2x4x8192x128, .f32⟩
  | 121 => ⟨S_, .f32⟩
  | 122 => ⟨S2x4x8192, .f32⟩
  | 123 => ⟨S2x4x8192x1, .f32⟩
  | 124 => ⟨S_, .f32⟩
  | 125 => ⟨S2x4x8192x1, .f32⟩
  | 126 => ⟨S2x4x8192x1, .f32⟩
  | 127 => ⟨S_, .f32⟩
  | _ => ⟨S16384x8192, .bf16⟩

abbrev hbmTy0_1 (i : Nat) : BufTy := match i % 128 with
  | 0 => ⟨S2x4x8192x1, .f32⟩
  | 1 => ⟨S2x4x8192x1, .f32⟩
  | 2 => ⟨S2x4x8192x1, .f32⟩
  | 3 => ⟨S2x4x8192x128, .f32⟩
  | 4 => ⟨S2x4x8192x128, .f32⟩
  | 5 => ⟨S1x4x1x128, .f32⟩
  | 6 => ⟨S2x4x8192x128, .f32⟩
  | 7 => ⟨S2x4x8192x128, .f32⟩
  | 8 => ⟨S2x8192x4x128, .f32⟩
  | 9 => ⟨S2x8192x512, .f32⟩
  | 10 => ⟨S2x8192x512, .f32⟩
  | 11 => ⟨S2x8192x512, .f32⟩
  | 12 => ⟨S_, .f32⟩
  | 13 => ⟨S2x8192x512, .f32⟩
  | 14 => ⟨S2x8192x512, .f32⟩
  | 15 => ⟨S_, .f32⟩
  | 16 => ⟨S2x8192x512, .f32⟩
  | 17 => ⟨S2x8192x512, .f32⟩
  | 18 => ⟨S2x8192x512, .f32⟩
  | 19 => ⟨S2x8192x512, .f32⟩
  | 20 => ⟨S16384x512, .f32⟩
  | 21 => ⟨S16384x512, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_c : Ref sig .tc := ⟨.hbm, 79, rfl⟩
abbrev main_v64_0 : Ref sig .tc := ⟨.hbm, 80, rfl⟩
abbrev main_v64_1 : Ref sig .tc := ⟨.hbm, 81, rfl⟩
abbrev main_v64_2 : Ref sig .tc := ⟨.hbm, 82, rfl⟩
abbrev main_v64_3 : Ref sig .tc := ⟨.hbm, 83, rfl⟩
abbrev main_v64_4 : Ref sig .tc := ⟨.hbm, 84, rfl⟩
abbrev main_while0c_c_17 : Ref sig .tc := ⟨.hbm, 85, rfl⟩
abbrev main_while0c_v98 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_c_1 : Ref sig .tc := ⟨.hbm, 89, rfl⟩
abbrev main_while0b_call1_c_2 : Ref sig .tc := ⟨.hbm, 90, rfl⟩
abbrev main_while0b_call1_v0 : Ref sig .tc := ⟨.hbm, 91, rfl⟩
abbrev main_while0b_v98 : Ref sig .tc := ⟨.hbm, 92, rfl⟩
abbrev main_while0b_v99 : Ref sig .tc := ⟨.hbm, 93, rfl⟩
abbrev main_while0b_v100 : Ref sig .tc := ⟨.hbm, 94, rfl⟩
abbrev main_while0b_v101 : Ref sig .tc := ⟨.hbm, 95, rfl⟩
abbrev main_while0b_v102 : Ref sig .tc := ⟨.hbm, 96, rfl⟩
abbrev main_while0b_call2_v0 : Ref sig .tc := ⟨.hbm, 97, rfl⟩
abbrev main_while0b_call2_c : Ref sig .tc := ⟨.hbm, 98, rfl⟩
abbrev main_while0b_call2_c_0 : Ref sig .tc := ⟨.hbm, 99, rfl⟩
abbrev main_while0b_call2_c_1 : Ref sig .tc := ⟨.hbm, 100, rfl⟩
abbrev main_while0b_call2_c_2 : Ref sig .tc := ⟨.hbm, 101, rfl⟩
abbrev main_while0b_v103 : Ref sig .tc := ⟨.hbm, 102, rfl⟩
abbrev main_while0b_c_17 : Ref sig .tc := ⟨.hbm, 103, rfl⟩
abbrev main_while0b_v104 : Ref sig .tc := ⟨.hbm, 104, rfl⟩
abbrev main_cst_9 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_10 : Ref sig .tc := ⟨.hbm, 121, rfl⟩
abbrev main_v80 : Ref sig .tc := ⟨.hbm, 122, rfl⟩
abbrev main_v81 : Ref sig .tc := ⟨.hbm, 123, rfl⟩
abbrev main_cst_11 : Ref sig .tc := ⟨.hbm, 124, rfl⟩
abbrev main_v82 : Ref sig .tc := ⟨.hbm, 125, rfl⟩
abbrev main_v83 : Ref sig .tc := ⟨.hbm, 126, rfl⟩
abbrev main_cst_12 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call3_v0 : Ref sig .tc := ⟨.hbm, 138, rfl⟩
abbrev main_call3_v1 : Ref sig .tc := ⟨.hbm, 139, rfl⟩
abbrev main_call3_cst : Ref sig .tc := ⟨.hbm, 140, rfl⟩
abbrev main_call3_v2 : Ref sig .tc := ⟨.hbm, 141, rfl⟩
abbrev main_call3_v3 : Ref sig .tc := ⟨.hbm, 142, rfl⟩
abbrev main_call3_cst_0 : Ref sig .tc := ⟨.hbm, 143, rfl⟩
abbrev main_call3_v4 : Ref sig .tc := ⟨.hbm, 144, rfl⟩
abbrev main_call3_v5 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x2048 : Shape := ⟨2, ![16384, 2048]⟩
abbrev S2x2048x8204 : Shape := ⟨3, ![2, 2048, 8204]⟩
abbrev S2x8204x2048 : Shape := ⟨3, ![2, 8204, 2048]⟩
abbrev S2x3072x2048 : Shape := ⟨3, ![2, 3072, 2048]⟩
abbrev S16384x8192 : Shape := ⟨2, ![16384, 8192]⟩
abbrev S16384x128 : Shape := ⟨2, ![16384, 128]⟩
abbrev S2048x2048 : Shape := ⟨2, ![2048, 2048]⟩
abbrev S1x512x2048 : Shape := ⟨3, ![1, 512, 2048]⟩
abbrev S1x128x2048 : Shape := ⟨3, ![1, 128, 2048]⟩
abbrev S2048x512 : Shape := ⟨2, ![2048, 512]⟩
abbrev S2048x128 : Shape := ⟨2, ![2048, 128]⟩
abbrev S128x2048 : Shape := ⟨2, ![128, 2048]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x8204, .f32⟩
  | .hbm, ⟨2, _⟩ => ⟨S2x8204x2048, .f32⟩
  | .hbm, ⟨3, _⟩ => ⟨S2x8204x2048, .bf16⟩
  | .hbm, ⟨4, _⟩ => ⟨S2x3072x2048, .bf16⟩
  | .hbm, ⟨5, _⟩ => ⟨S16384x8192, .bf16⟩
  | .hbm, ⟨6, _⟩ => ⟨S16384x128, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x128x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x128, .f32⟩
  | .local _ .vmem, ⟨10, _⟩ => ⟨S2048x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .sge arg1 c10_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  let c0_i32_1 : BitVec 32 := 0#32
  ![c0_i32.toNat, c40_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c6_i32 : BitVec 32 := 6#32
  let v1 : BitVec 32 := Scalar.addi arg1 c6_i32
  let c6_i32_0 : BitVec 32 := 6#32
  let v2 : BitVec 32 := Scalar.addi v1 c6_i32_0
  let c4_i32_1 : BitVec 32 := 4#32
  let v3 : BitVec 32 := Scalar.subi arg1 c4_i32_1
  let v4 : BitVec 32 := Scalar.select v0 v2 v3
  let c0_i32 : BitVec 32 := 0#32
  ![arg0.toNat, v4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2x2048x8204 : Shape := ⟨3, ![2, 2048, 8204]⟩
abbrev S1x2048x8204 : Shape := ⟨3, ![1, 2048, 8204]⟩
abbrev S2048x8204 : Shape := ⟨2, ![2048, 8204]⟩
abbrev S16384x8204 : Shape := ⟨2, ![16384, 8204]⟩
abbrev S16384x3072 : Shape := ⟨2, ![16384, 3072]⟩
abbrev S16384x8192 : Shape := ⟨2, ![16384, 8192]⟩
abbrev S16384x128 : Shape := ⟨2, ![16384, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x8204, .f32⟩
  | .hbm, ⟨2, _⟩ => ⟨S16384x2048, .f32⟩
  | .hbm, ⟨3, _⟩ => ⟨S1x2048x8204, .f32⟩
  | .hbm, ⟨4, _⟩ => ⟨S2048x8204, .f32⟩
  | .hbm, ⟨5, _⟩ => ⟨S16384x8204, .f32⟩
  | .hbm, ⟨6, _⟩ => ⟨S16384x2048, .f32⟩
  | .hbm, ⟨7, _⟩ => ⟨S16384x3072, .f32⟩
  | .hbm, ⟨8, _⟩ => ⟨S16384x3072, .f32⟩
  | .hbm, ⟨9, _⟩ => ⟨S16384x8192, .f32⟩
  | .hbm, ⟨10, _⟩ => ⟨S16384x8192, .bf16⟩
  | .hbm, ⟨11, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S16384x2048 : Shape := ⟨2, ![16384, 2048]⟩
abbrev S16384x512 : Shape := ⟨2, ![16384, 512]⟩
abbrev S16384x768 : Shape := ⟨2, ![16384, 768]⟩
abbrev S2x2048x2048 : Shape := ⟨3, ![2, 2048, 2048]⟩
abbrev S512x2048 : Shape := ⟨2, ![512, 2048]⟩
abbrev S512x512 : Shape := ⟨2, ![512, 512]⟩
abbrev S512x768 : Shape := ⟨2, ![512, 768]⟩
abbrev S1x2048x2048 : Shape := ⟨3, ![1, 2048, 2048]⟩
abbrev S1x512x512 : Shape := ⟨3, ![1, 512, 512]⟩
abbrev S1x768x512 : Shape := ⟨3, ![1, 768, 512]⟩
abbrev S768x512 : Shape := ⟨2, ![768, 512]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x768, .bf16⟩
  | .hbm, ⟨3, _⟩ => ⟨S16384x768, .bf16⟩
  | .hbm, ⟨4, _⟩ => ⟨S2x2048x2048, .f32⟩
  | .hbm, ⟨5, _⟩ => ⟨S2x2048x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S16384x512 : Shape := ⟨2, ![16384, 512]⟩
abbrev S16384x768 : Shape := ⟨2, ![16384, 768]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x768, .bf16⟩
  | .hbm, ⟨3, _⟩ => ⟨S16384x768, .bf16⟩
  | .hbm, ⟨4, _⟩ => ⟨S2x2048x2048, .f32⟩
  | .hbm, ⟨5, _⟩ => ⟨S16384x512, .f32⟩
  | .hbm, ⟨6, _⟩ => ⟨S16384x768, .f32⟩
  | .hbm, ⟨7, _⟩ => ⟨S16384x768, .f32⟩
  | .hbm, ⟨8, _⟩ => ⟨S16384x2048, .f32⟩
  | .hbm, ⟨9, _⟩ => ⟨S1x2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S2x8192x2048 : Shape := ⟨3, ![2, 8192, 2048]⟩
abbrev S2x2048 : Shape := ⟨2, ![2, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S16384x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x8192x2048 : Shape := ⟨3, ![2, 8192, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S16384x2048, .f32⟩
  | .hbm, ⟨21, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel5.lean ====
abbrev S16384x2048 : Shape := ⟨2, ![16384, 2048]⟩
abbrev S16384x512 : Shape := ⟨2, ![16384, 512]⟩
abbrev S16384x768 : Shape := ⟨2, ![16384, 768]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S512x2048 : Shape := ⟨2, ![512, 2048]⟩
abbrev S512x512 : Shape := ⟨2, ![512, 512]⟩
abbrev S512x768 : Shape := ⟨2, ![512, 768]⟩
abbrev S1x2048x2048 : Shape := ⟨3, ![1, 2048, 2048]⟩
abbrev S1x512x512 : Shape := ⟨3, ![1, 512, 512]⟩
abbrev S1x768x512 : Shape := ⟨3, ![1, 768, 512]⟩
abbrev S768x512 : Shape := ⟨2, ![768, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x768, .bf16⟩
  | .hbm, ⟨3, _⟩ => ⟨S16384x768, .bf16⟩
  | .hbm, ⟨4, _⟩ => ⟨S2x2048x2048, .f32⟩
  | .hbm, ⟨5, _⟩ => ⟨S2x2048, .f32⟩
  | .hbm, ⟨6, _⟩ => ⟨S2x2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S1x2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x2048 : Shape := ⟨2, ![16384, 2048]⟩
abbrev S16384x512 : Shape := ⟨2, ![16384, 512]⟩
abbrev S16384x768 : Shape := ⟨2, ![16384, 768]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x768, .bf16⟩
  | .hbm, ⟨3, _⟩ => ⟨S16384x768, .bf16⟩
  | .hbm, ⟨4, _⟩ => ⟨S2x2048x2048, .f32⟩
  | .hbm, ⟨5, _⟩ => ⟨S2x2048, .f32⟩
  | .hbm, ⟨6, _⟩ => ⟨S16384x512, .f32⟩
  | .hbm, ⟨7, _⟩ => ⟨S16384x768, .f32⟩
  | .hbm, ⟨8, _⟩ => ⟨S16384x768, .f32⟩
  | .hbm, ⟨9, _⟩ => ⟨S16384x2048, .f32⟩
  | .hbm, ⟨10, _⟩ => ⟨S1x2048x2048, .f32⟩
  | .hbm, ⟨11, _⟩ => ⟨S2048x2048, .f32⟩
  | .hbm, ⟨12, _⟩ => ⟨S16384x2048, .f32⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel6.lean ====
abbrev S16384x8192 : Shape := ⟨2, ![16384, 8192]⟩
abbrev S128 : Shape := ⟨1, ![128]⟩
abbrev S8192x128 : Shape := ⟨2, ![8192, 128]⟩
abbrev S1x128 : Shape := ⟨2, ![1, 128]⟩
abbrev S2x6x8192x256 : Shape := ⟨4, ![2, 6, 8192, 256]⟩
abbrev S2x32x1x768 : Shape := ⟨4, ![2, 32, 1, 768]⟩
abbrev S1024x768 : Shape := ⟨2, ![1024, 768]⟩
abbrev S1024x128 : Shape := ⟨2, ![1024, 128]⟩
abbrev S1x6x1024x256 : Shape := ⟨4, ![1, 6, 1024, 256]⟩
abbrev S1x4x1x768 : Shape := ⟨4, ![1, 4, 1, 768]⟩
abbrev S1024 : Shape := ⟨1, ![1024]⟩
abbrev S1024x1 : Shape := ⟨2, ![1024, 1]⟩
abbrev S1x1x1024x128 : Shape := ⟨4, ![1, 1, 1024, 128]⟩
abbrev S256x128 : Shape := ⟨2, ![256, 128]⟩
abbrev S1x1x1x128 : Shape := ⟨4, ![1, 1, 1, 128]⟩

abbrev nBuf : Space → Nat
  | .hbm => 7
  | .vmem => 13
  | .smem => 0
  | _ => 0

abbrev bufTy : (tb : Table) → Fin (tcTables nBuf tb) → BufTy
  | .hbm, ⟨0, _⟩ => ⟨S16384x8192, .bf16⟩
  | .hbm, ⟨1, _⟩ => ⟨S128, .f32⟩
  | .hbm, ⟨2, _⟩ => ⟨S8192x128, .bf16⟩
  | .hbm, ⟨3, _⟩ => ⟨S1x128, .f32⟩
  | .hbm, ⟨4, _⟩ => ⟨S2x6x8192x256, .bf16⟩
  | .hbm, ⟨5, _⟩ => ⟨S2x6x8192x256, .bf16⟩
  | .hbm, ⟨6, _⟩ => ⟨S2x32x1x768, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | .local _ .vmem, ⟨7, _⟩ => ⟨S1x6x1024x256, .bf16⟩
  | .local _ .vmem, ⟨8, _⟩ => ⟨S1x6x1024x256, .bf16⟩
  | .local _ .vmem, ⟨9, _⟩ => ⟨S1x6x1024x256, .bf16⟩
  | .local _ .vmem, ⟨10, _⟩ => ⟨S1x6x1024x256, .bf16⟩
  | .local _ .vmem, ⟨11, _⟩ => ⟨S1x4x1x768, .f32⟩
  | .local _ .vmem, ⟨12, _⟩ => ⟨S1x4x1x768, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x6x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16384x8192 : Shape := ⟨2, ![16384, 8192]⟩
abbrev S128 : Shape := ⟨1, ![128]⟩
abbrev S8192x128 : Shape := ⟨2, ![8192, 128]⟩
abbrev S2x8192x8192 : Shape := ⟨3, ![2, 8192, 8192]⟩
abbrev S2x8192x768 : Shape := ⟨3, ![2, 8192, 768]⟩
abbrev S2x8192x6x128 : Shape := ⟨4, ![2, 8192, 6, 128]⟩
abbrev S2x6x8192x128 : Shape := ⟨4, ![2, 6, 8192, 128]⟩
abbrev S_ : Shape := ⟨0, ![]⟩
abbrev S2x6x8192 : Shape := ⟨3, ![2, 6, 8192]⟩
abbrev S2x6x8192x1 : Shape := ⟨4, ![2, 6, 8192, 1]⟩
abbrev S1x1x1x128 : Shape := ⟨4, ![1, 1, 1, 128]⟩
abbrev S2x6x32x256x128 : Shape := ⟨5, ![2, 6, 32, 256, 128]⟩
abbrev S2x6x32x128 : Shape := ⟨4, ![2, 6, 32, 128]⟩
abbrev S2x6x8192x256 : Shape := ⟨4, ![2, 6, 8192, 256]⟩
abbrev S2x32x6x128 : Shape := ⟨4, ![2, 32, 6, 128]⟩
abbrev S2x32x1x768 : Shape := ⟨4, ![2, 32, 1, 768]⟩

abbrev nBuf : Space → Nat
  | .hbm => 43
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S128, .f32⟩
  | .hbm, ⟨2, _⟩ => ⟨S8192x128, .bf16⟩
  | .hbm, ⟨3, _⟩ => ⟨S16384x8192, .f32⟩
  | .hbm, ⟨4, _⟩ => ⟨S2x8192x8192, .f32⟩
  | .hbm, ⟨5, _⟩ => ⟨S2x8192x768, .f32⟩
  | .hbm, ⟨6, _⟩ => ⟨S2x8192x6x128, .f32⟩
  | .hbm, ⟨7, _⟩ => ⟨S2x6x8192x128, .f32⟩
  | .hbm, ⟨8, _⟩ => ⟨S2x8192x768, .f32⟩
  | .hbm, ⟨9, _⟩ => ⟨S2x8192x6x128, .f32⟩
  | .hbm, ⟨10, _⟩ => ⟨S2x6x8192x128, .f32⟩
  | .hbm, ⟨11, _⟩ => ⟨S2x6x8192x128, .f32⟩
  | .hbm, ⟨12, _⟩ => ⟨S_, .f32⟩
  | .hbm, ⟨13, _⟩ => ⟨S2x6x8192, .f32⟩
  | .hbm, ⟨14, _⟩ => ⟨S2x6x8192x1, .f32⟩
  | .hbm, ⟨15, _⟩ => ⟨S_, .f32⟩
  | .hbm, ⟨16, _⟩ => ⟨S2x6x8192x1, .f32⟩
  | .hbm, ⟨17, _⟩ => ⟨S2x6x8192x1, .f32⟩
  | .hbm, ⟨18, _⟩ => ⟨S_, .f32⟩
  | .hbm, ⟨19, _⟩ => ⟨S2x6x8192x1, .f32⟩
  | .hbm, ⟨20, _⟩ => ⟨S2x6x8192x1, .f32⟩
  | .hbm, ⟨21, _⟩ => ⟨S2x6x8192x1, .f32⟩
  | .hbm, ⟨22, _⟩ => ⟨S2x6x8192x128, .f32⟩
  | .hbm, ⟨23, _⟩ => ⟨S2x6x8192x128, .f32⟩
  | .hbm, ⟨24, _⟩ => ⟨S1x1x1x128, .f32⟩
  | .hbm, ⟨25, _⟩ => ⟨S2x6x8192x128, .f32⟩
  | .hbm, ⟨26, _⟩ => ⟨S2x6x8192x128, .f32⟩
  | .hbm, ⟨27, _⟩ => ⟨S2x6x32x256x128, .f32⟩
  | .hbm, ⟨28, _⟩ => ⟨S_, .f32⟩
  | .hbm, ⟨29, _⟩ => ⟨S2x6x32x128, .f32⟩
  | .hbm, ⟨30, _⟩ => ⟨S_, .f32⟩
  | .hbm, ⟨31, _⟩ => ⟨S2x6x32x128, .f32⟩
  | .hbm, ⟨32, _⟩ => ⟨S2x6x32x128, .f32⟩
  | .hbm, ⟨33, _⟩ => ⟨S8192x128, .f32⟩
  | .hbm, ⟨34, _⟩ => ⟨S2x6x8192x128, .f32⟩
  | .hbm, ⟨35, _⟩ => ⟨S2x6x8192x256, .f32⟩
  | .hbm, ⟨36, _⟩ => ⟨S2x6x8192x256, .bf16⟩
  | .hbm, ⟨37, _⟩ => ⟨S_, .f32⟩
  | .hbm, ⟨38, _⟩ => ⟨S2x6x8192x128, .f32⟩
  | .hbm, ⟨39, _⟩ => ⟨S2x6x8192x256, .f32⟩
  | .hbm, ⟨40, _⟩ => ⟨S2x6x8192x256, .bf16⟩
  | .hbm, ⟨41, _⟩ => ⟨S2x32x6x128, .f32⟩
  | .hbm, ⟨42, _⟩ => ⟨S2x32x1x768, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.InFrame.lean ====
/- The input projection's run: what the body does at one grid point, and what its two output buffers hold after
   every point. The body writes one block of 512 columns of the product at every point, from the first copy of the
   weights at the first ten points of a row of the grid and from the second at the last six; the narrow result is
   stored once, at the first point of the row, and written back at the last. -/
module

public import proofs.«01_k».proof.Proof.Gen.Kernel2Ideal.Skeleton
public import proofs.«01_k».proof.Proof.Gen.Kernel2Ideal.Frame
public import Idealize.ShloMosaic.Lib.Pipeline.Value
public import Idealize.ShloMosaic.Lib.Claim

@[expose] public section

set_option maxRecDepth 16384

noncomputable section

namespace Cert.Kernel2Ideal.InFrame

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branches are taken -/

/-- The narrow result is stored at the first point of a row of the grid, -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- the first copy of the weights is read at the first ten points, -/
theorem left_iff : ∀ t : Fin cfg0.N, k0_cond2 (grid0.coords t) = 1#1 ↔ t.val % 16 < 10 :=
  (by decide +kernel : ∀ t : Fin grid0.N, k0_cond2 (grid0.coords t) = 1#1 ↔ t.val % 16 < 10)

/-- and the second copy exactly where the first is not. -/
theorem right_iff : ∀ t : Fin cfg0.N, k0_cond3 (grid0.coords t) = 1#1 ↔ ¬ k0_cond2 (grid0.coords t) = 1#1 :=
  (by decide +kernel : ∀ t : Fin grid0.N, k0_cond3 (grid0.coords t) = 1#1 ↔ ¬ k0_cond2 (grid0.coords t) = 1#1)

/-! ## The body at one point -/

/-- The wide block a point stores. -/
def wide (p : Prop) [Decidable p] (h : Vec F S2048x2048 .bf16) (wa wb : Vec F S1x512x2048 .bf16) : Vec F S2048x512 .bf16 :=
  if p then k0_pay2 h wa else k0_pay3 h wb

/-- The narrow block after a point: stored afresh, or as it was. -/
def narrow (p : Prop) [Decidable p] (h : Vec F S2048x2048 .bf16) (ws : Vec F S1x128x2048 .bf16) (y : Vec F S2048x128 .f32) : Vec F S2048x128 .f32 :=
  if p then k0_pay1 h ws else y

theorem off2 : (![0, 0] : Fin 2 → Nat) = fun _ => 0 := by funext a; fin_cases a <;> rfl
theorem off3 : (![0, 0, 0] : Fin 3 → Nat) = fun _ => 0 := by funext a; fin_cases a <;> rfl

/-- A store over a whole buffer leaves its payload, whatever the buffer held. -/
theorem read_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon, View.canon_unit_zero h]
  intro y
  refine ⟨_, List.mem_singleton.mpr rfl, ?_⟩
  subst h
  exact (Rect.mem_set_unit (inb := inb)).mpr fun a => ⟨Nat.zero_le _, by rw [Nat.zero_add]; exact (y a).isLt⟩

set_option maxHeartbeats 1000000 in
/-- The body on whole buffers holding `x0 … x3` and `y5`: it stores the wide block, and the narrow one at the first
    point of a row. -/
theorem body_run (c : Dev nD) (i : grid0.Coords) (arg2 : Memref sig .tc .vmem S2048x2048 .bf16) (harg2 : arg2.IsWhole)
    (arg3 : Memref sig .tc .vmem S1x512x2048 .bf16) (harg3 : arg3.IsWhole) (arg4 : Memref sig .tc .vmem S1x512x2048 .bf16) (harg4 : arg4.IsWhole)
    (arg5 : Memref sig .tc .vmem S1x128x2048 .bf16) (harg5 : arg5.IsWhole) (arg6 : Memref sig .tc .vmem S2048x512 .bf16) (harg6 : arg6.IsWhole)
    (arg7 : Memref sig .tc .vmem S2048x128 .f32) (harg7 : arg7.IsWhole) (hc : k0_cond3 i = 1#1 ↔ ¬ k0_cond2 i = 1#1)
    (x0 : Vec F S2048x2048 .bf16) (x1 x2 : Vec F S1x512x2048 .bf16) (x3 : Vec F S1x128x2048 .bf16) (y5 : Vec F S2048x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare y5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (wide (k0_cond2 i = 1#1) x0 x1 x2)
            ∗ owns (c : Thread nD τ) arg7 fullShare (narrow (k0_cond1 i = 1#1) x0 x3 y5)) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  by_cases h1 : k0_cond1 i = 1#1 <;> by_cases h2 : k0_cond2 i = 1#1 <;>
  · first
      | have h3 : ¬ k0_cond3 i = 1#1 := fun h => (hc.mp h) h2
      | have h3 : k0_cond3 i = 1#1 := hc.mpr h2
    sl_exec (disch := first | sl_exact h1 | sl_exact h2 | sl_exact h3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      unfold wide
      first | rw [if_pos h2] | rw [if_neg h2]
      refine (read_whole _ _ off2 _ _).trans ?_
      simp only [View.readAt_eq_ld, View.ld_unit_zero (S := S2048x2048) off2, View.ld_unit_zero (S := S1x512x2048) off3]
    iexists _; isplitr
    swap; · iexact H5
    ipureintro
    unfold narrow
    first
      | rw [if_neg h1]; done
      | rw [if_pos h1]
        refine (read_whole _ _ off2 _ _).trans ?_
        simp only [View.readAt_eq_ld, View.ld_unit_zero (S := S2048x2048) off2, View.ld_unit_zero (S := S1x128x2048) off3]

/-! ## What the buffers hold, point by point -/

/-- The point that opens the row of the grid a point is in. -/
def opens (t : Fin cfg0.N) : Fin cfg0.N := ⟨t.val / 16 * 16, Nat.lt_of_le_of_lt (Nat.div_mul_le_self _ _) t.isLt⟩

/-- The wide block stored at a point, of the arrays' blocks there. -/
def wideAt (c : Dev nD) (t : Fin cfg0.N) : Vec F S2048x512 .bf16 :=
  wide (t.val % 16 < 10) (iblk m c 0 t) (X0_1 m c t) (iblk m c 2 t)

/-- The narrow block held through a row: the one stored at its opening point. -/
def narrowAt (c : Dev nD) (t : Fin cfg0.N) : Vec F S2048x128 .f32 := k0_pay1 (iblk m c 0 (opens t)) (X0_3 m c (opens t))

/-- The proof data: the arrays as the region finds them, and after each point every input's buffer at its block and
    the two outputs' at the blocks named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => X0_3 m c t
    | ⟨4, _⟩ => wideAt m c t
    | ⟨5, _⟩ => narrowAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = wideAt m c t := by dsimp only [dats]
theorem after_5 (c : Dev nD) (t : Fin cfg0.N) : (dats m 0 c).after 5 t = narrowAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d

theorem idle_4 : ∀ t : Fin cfg0.N, cfg0.idle 4 (grid0.coords t) = false :=
  (by decide +kernel : ∀ t : Fin grid0.N, idle0 4 (grid0.coords t) = false)
theorem idle_5 : ∀ t : Fin cfg0.N, cfg0.idle 5 (grid0.coords t) = decide (t.val % 16 ≠ 0) :=
  (by decide +kernel : ∀ t : Fin grid0.N, idle0 5 (grid0.coords t) = decide (t.val % 16 ≠ 0))

/-- Past the opening point of a row the narrow buffer holds what that point stored. -/
theorem before_5 (c : Dev nD) (n : Nat) : ∀ (hn : n < cfg0.N) (h : n % 16 ≠ 0) (d), (dats m 0 c).before 5 ⟨n, hn⟩ d = narrowAt m c ⟨n, hn⟩ := by
  induction n with
  | zero => intro hn h; exact absurd rfl h
  | succ k ih =>
    intro hn h d
    have hk : k < cfg0.N := Nat.lt_of_succ_lt hn
    have hrow : narrowAt m c ⟨k + 1, hn⟩ = narrowAt m c ⟨k, hk⟩ := by
      unfold narrowAt
      rw [show opens (⟨k + 1, hn⟩ : Fin cfg0.N) = opens ⟨k, hk⟩ from Fin.ext (by unfold opens; dsimp only; omega)]
    rw [hrow, (dats m 0 c).before_of_pos 5 ⟨k + 1, hn⟩ (Nat.succ_ne_zero k) ((cfg0.win 5).fetch_out rfl _),
      if_neg (fun hf => by have := (flush0_5 ⟨k, hk⟩).mp hf; dsimp only at this; omega)]
    show (dats m 0 c).left 5 ⟨k, hk⟩ d = _
    unfold Dat.left
    by_cases h0 : k % 16 = 0
    · rw [show cfg0.idle 5 (cfg0.grid.coords ⟨k, hk⟩) = false from (idle_5 ⟨k, hk⟩).trans (decide_eq_false (fun hx => hx h0))]
      dsimp only
      unfold Dat.kept
      rw [after_5]
      rw [Pipeline.fill_of_clip_none 5 _ (fun _ => rfl) d (narrowAt m c ⟨k, hk⟩), Pipeline.Window.fill_cut]
    · rw [show cfg0.idle 5 (cfg0.grid.coords ⟨k, hk⟩) = true from (idle_5 ⟨k, hk⟩).trans (decide_eq_true h0)]
      exact ih hk h0 d

/-- What the body leaves in the narrow buffer is what the loop asks for there. -/
theorem leaves_5 (c : Dev nD) (t : Fin cfg0.N) (d) :
    owns (c : Thread nD τ) (st0_5 t) fullShare (narrow (k0_cond1 (grid0.coords t) = 1#1) (iblk m c 0 t) (X0_3 m c t) ((dats m 0 c).before 5 t d))
      ⊢ ((dats m 0 c).leavesExact 5 t : sProp 𝕄) := by
  unfold narrow
  by_cases h0 : t.val % 16 = 0
  · rw [if_pos ((first_iff t).mpr h0)]
    unfold Dat.leavesExact
    rw [show cfg0.idle 5 (cfg0.grid.coords t) = false from (idle_5 t).trans (decide_eq_false (fun hx => hx h0)), after_5]
    have ht : opens t = t := Fin.ext (by unfold opens; dsimp only; omega)
    unfold narrowAt
    rw [ht]
  · rw [if_neg fun h => h0 ((first_iff t).mp h)]
    have hi : cfg0.idle 5 (cfg0.grid.coords t) = true := (idle_5 t).trans (decide_eq_true h0)
    by_cases hf : (cfg0.win 5).flush t = true
    · unfold Dat.leavesExact
      rw [hi, hf, after_5, before_5 m c t.val t.isLt h0 d]
    · rw [(dats m 0 c).leavesExact_idle 5 t hi (Bool.eq_false_iff.mpr hf)]
      iintro H
      iexists d
      iexact H

/-! ## The body obligation and the run -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_eq (c : Dev nD) (w : Fin cfg0.W) (t : Fin cfg0.N) (h : cfg0.idle w (cfg0.grid.coords t) = false) :
    ((dats m 0 c).leavesExact w t : sProp 𝕄) = owns (c : Thread nD τ) ((cfg0.win w).stage (cfg0.slots t w)) fullShare ((dats m 0 c).after w t) := by
  unfold Dat.leavesExact; rw [h]

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_eq m c 0 t rfl, leaves_eq m c 1 t rfl, leaves_eq m c 2 t rfl, leaves_eq m c 3 t rfl, leaves_eq m c 4 t (idle_4 t),
    after_0, after_1, after_2, after_3, after_4]
  have hw : wideAt m c t = wide (k0_cond2 (grid0.coords t) = 1#1) (iblk m c 0 t) (X0_1 m c t) (iblk m c 2 t) := by
    unfold wideAt wide
    by_cases h : t.val % 16 < 10
    · rw [if_pos h, if_pos ((left_iff t).mpr h)]
    · rw [if_neg h, if_neg fun hx => h ((left_iff t).mp hx)]
  rw [hw]
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (right_iff t) (iblk m c 0 t) (X0_1 m c t) (iblk m c 2 t) (X0_3 m c t)
    ((dats m 0 c).before 5 t d5) Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (leaves_5 m c t d5)
  iexact H5

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- Every run ends, with every array of the region at what the proof data say and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.InFrame

end
-- ==== Proof.InRef.lean ====
/-
  The input projection's reference, read at an index: the result's columns come in three groups, taken from three
  places among the 8204 columns of the product; the narrow result is 128 of its columns.
-/
module

public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Reference2Ideal.InRef

open Cert.Reference2Ideal Cert.Reference2Ideal.Gen Cert.Reference2Ideal.Read
open Idealize.ShloMosaic Idealize.ShloMosaic.TcCoe Idealize.SL.Sem

/-- The column of the product that column `q` of the result is. -/
def src (q : Fin 8192) : Fin 8204 :=
  if h : q.val < 3072 then ⟨2048 + q.val, by omega⟩
  else if h' : q.val < 6144 then ⟨5132 + (q.val - 3072), by omega⟩ else ⟨q.val - 6144, by omega⟩

theorem src_val (q : Fin 8192) : (src q).val = if q.val < 3072 then 2048 + q.val else if q.val < 6144 then 5132 + (q.val - 3072) else q.val - 6144 := by
  unfold src
  split_ifs <;> rfl

/-- The product at row `r` and column `c`. -/
def prod (h : FVec Ideal S16384x2048 .bf16) (w : FVec Ideal S2x2048x8204 .f32) (r : Fin 16384) (c : Fin 8204) : EReal :=
  ∑ k : Fin 2048, h (ix2 r k) * w (ix3 0 k c)

theorem ref_at (h : FVec Ideal S16384x2048 .bf16) (w : FVec Ideal S2x2048x8204 .f32) (y : S16384x8192.Idx) :
    val_main_v8 (F := Ideal) h w y = prod h w (y 0) (src (y 1)) := by
  pointwise [val_main_v8, val_main_v7, val_main_v6, val_main_v5, val_main_v4, val_main_v3, val_main_v2, val_main_v1, val_main_v0]
  unfold prod src
  by_cases h1 : (y 1).val < 3072
  · rw [dif_pos h1, dif_pos h1]
  · by_cases h2 : (y 1).val < 6144
    · rw [dif_neg h1, dif_neg h1, dif_pos (show (y 1).val - 3072 < 3072 by omega), dif_pos h2]
    · rw [dif_neg h1, dif_neg h1, dif_neg (show ¬ (y 1).val - 3072 < 3072 by omega), dif_neg h2]
      refine Finset.sum_congr rfl fun k _ => ?_
      rw [show (⟨(y 1).val - 3072 - 3072, by have := (y 1).isLt; change (y 1).val < 8192 at this; omega⟩ : Fin 8204)
        = ⟨(y 1).val - 6144, by have := (y 1).isLt; change (y 1).val < 8192 at this; omega⟩ from Fin.ext (by dsimp only; omega)]

theorem ref_narrow_at (h : FVec Ideal S16384x2048 .bf16) (w : FVec Ideal S2x2048x8204 .f32) (y : S16384x128.Idx) :
    val_main_v9 (F := Ideal) h w y = prod h w (y 0) ⟨5120 + (y 1).val, by have := (y 1).isLt; change (y 1).val < 128 at this; omega⟩ := by
  pointwise [val_main_v9, val_main_v3, val_main_v2, val_main_v1, val_main_v0, prod]

end Cert.Reference2Ideal.InRef
-- ==== Proof.InArray.lean ====
/-
  The input projection, one grid point: each stored block is the rows of `h` against one block of rows of the
  transposed weight.
-/
module

public import proofs.«01_k».proof.Proof.InFrame
public import proofs.«01_k».proof.Proof.InRef
public import Idealize.ShloMosaic.Lib.Pipeline.ValueKit
public import Idealize.ShloMosaic.Lib.Pointwise

@[expose] public section

set_option maxRecDepth 16384

noncomputable section

namespace Cert.Kernel2Ideal.InArray

open Cert.Kernel2Ideal Cert.Kernel2Ideal.Gen Cert.Kernel2Ideal.InFrame Idealize.ShloMosaic Idealize.ShloMosaic.TcCoe Idealize.SL.Sem
open Cert.Reference2Ideal.InRef (prod src)

theorem pay1_at (h : FVec Ideal S2048x2048 .bf16) (w : FVec Ideal S1x128x2048 .bf16) (y : S2048x128.Idx) :
    k0_pay1 (F := Ideal) h w y = ∑ k : Fin 2048, h (ix2 (y 0) k) * w (ix3 0 (y 1) k) := by
  pointwise [k0_pay1, constant]

theorem pay2_at (h : FVec Ideal S2048x2048 .bf16) (w : FVec Ideal S1x512x2048 .bf16) (y : S2048x512.Idx) :
    k0_pay2 (F := Ideal) h w y = ∑ k : Fin 2048, h (ix2 (y 0) k) * w (ix3 0 (y 1) k) := by
  pointwise [k0_pay2, constant]

/-- The two copies of the weights meet the same body. -/
theorem pay3_at (h : FVec Ideal S2048x2048 .bf16) (w : FVec Ideal S1x512x2048 .bf16) (y : S2048x512.Idx) :
    k0_pay3 (F := Ideal) h w y = ∑ k : Fin 2048, h (ix2 (y 0) k) * w (ix3 0 (y 1) k) := pay2_at h w y

variable (m : (ℓ : Loc nD τ sig) → Buf (Elt Ideal) ℓ)

/-- Where each window's block lies at grid point `t`. -/
theorem idx : ∀ t : Fin cfg0.N, win0_0.index t = ![t.val / 16, 0] ∧ win0_1.index t = ![0, min (t.val % 16) 9, 0]
    ∧ win0_2.index t = ![0, t.val % 16 - 10, 0] ∧ win0_3.index t = ![0, 40, 0]
    ∧ win0_4.index t = ![t.val / 16, if t.val % 16 < 4 then t.val % 16 + 12 else t.val % 16 - 4]
    ∧ win0_5.index t = ![t.val / 16, 0] ∧ t.val < 128 :=
  (by decide +kernel : ∀ t : Fin grid0.N, _)

/-- The weights as the region finds them: transposed. -/
theorem V_wa (c : Dev nD) (i : S2x8204x2048.Idx) : V m c main_v1 i = m ((c : Thread nD τ).loc main_arg1) (ix3 (i 0) (i 2) (i 1)) := by
  have h : V m c main_v1 = truncf (F := Ideal) .bf16 (transpose S2x8204x2048 [0, 2, 1] (m ((c : Thread nD τ).loc main_arg1)) transposes_S2x2048x8204_S2x8204x2048_0_2_1) bitsLt_bf16_f32 := by
    unfold V hostOps0
    after_results
  rw [h]
  pointwise

/-- The block of the weights' first copy that point `t` reads, -/
theorem X1_at (c : Dev nD) (t : Fin cfg0.N) (h : t.val % 16 < 10) (j : S1x512x2048.Idx) :
    X0_1 m c t j = m ((c : Thread nD τ).loc main_arg1) (ix3 0 (j 2) ⟨t.val % 16 * 512 + (j 1).val, by have := (j 1).isLt; change (j 1).val < 512 at this; omega⟩) := by
  unfold X0_1 Pipeline.Window.fill
  rw [dif_pos (moved0_1 t j)]
  refine (V_wa m c _).trans (congrArg (m ((c : Thread nD τ).loc main_arg1)) (funext fun a => Fin.ext ?_))
  have h0 : (j 0).val < 1 := (j 0).isLt
  match a with
  | ⟨0, _⟩ => blk_simp; rw [(idx t).2.1]; exact Nat.zero_add _
  | ⟨1, _⟩ => blk_simp; rw [(idx t).2.1]; show 0 * 2048 + (j 2).val = (j 2).val; omega
  | ⟨2, _⟩ => blk_simp; rw [(idx t).2.1]; show min (t.val % 16) 9 * 512 + _ = _; rw [show min (t.val % 16) 9 = t.val % 16 by omega]

/-- and the block of 128 rows of it that the narrow result is computed from. -/
theorem X3_at (c : Dev nD) (t : Fin cfg0.N) (j : S1x128x2048.Idx) :
    X0_3 m c t j = m ((c : Thread nD τ).loc main_arg1) (ix3 0 (j 2) ⟨5120 + (j 1).val, by have := (j 1).isLt; change (j 1).val < 128 at this; omega⟩) := by
  unfold X0_3 Pipeline.Window.fill
  rw [dif_pos (moved0_3 t j)]
  refine (V_wa m c _).trans (congrArg (m ((c : Thread nD τ).loc main_arg1)) (funext fun a => Fin.ext ?_))
  have h0 : (j 0).val < 1 := (j 0).isLt
  match a with
  | ⟨0, _⟩ => blk_simp; rw [(idx t).2.2.2.1]; exact Nat.zero_add _
  | ⟨1, _⟩ => blk_simp; rw [(idx t).2.2.2.1]; show 0 * 2048 + (j 2).val = (j 2).val; omega
  | ⟨2, _⟩ => blk_simp; rw [(idx t).2.2.2.1]; show 40 * 128 + (j 1).val = 5120 + (j 1).val; omega

/-- The wide array. -/
theorem final (c : Dev nD) : (dats m 0 c).arrAt 4 cfg0.N
    = Cert.Reference2Ideal.Read.val_main_v8 (F := Ideal) (m ((c : Thread nD τ).loc main_arg0)) (m ((c : Thread nD τ).loc main_arg1)) := by
  refine (dats m 0 c).arrAt_eq_of_covers 4 _ (by decide +kernel) fun t _ y => ?_
  blk_simp
  rw [after_4]
  refine Eq.trans ?_ (Cert.Reference2Ideal.InRef.ref_at _ _ _).symm
  have hq : ((((cfg0.win 4).blk t).view.emb y) 1).val = (if t.val % 16 < 4 then t.val % 16 + 12 else t.val % 16 - 4) * 512 + (y 1).val := by
    blk_simp
    rw [(idx t).2.2.2.2.1]; rfl
  have hs := Cert.Reference2Ideal.InRef.src_val ((((cfg0.win 4).blk t).view.emb y) 1)
  have hy : (y 1).val < 512 := (y 1).isLt
  rw [hq] at hs
  unfold wideAt wide prod
  by_cases h : t.val % 16 < 10
  · rw [if_pos h]
    refine (pay2_at _ _ _).trans (Finset.sum_congr rfl fun k _ => congrArg₂ (· * ·) ?_ ?_)
    · blk_point [iblk, V, idx t]
    · refine (X1_at m c t h _).trans ?_
      refine congrArg (fun q => m ((c : Thread nD τ).loc main_arg1) (ix3 0 k q)) (Fin.ext ?_)
      refine Eq.trans ?_ hs.symm
      show t.val % 16 * 512 + (y 1).val = _
      split_ifs <;> omega
  · rw [if_neg h]
    refine (pay3_at _ _ _).trans (Finset.sum_congr rfl fun k _ => congrArg₂ (· * ·) ?_ ?_)
    · blk_point [iblk, V, idx t]
    · blk_point [iblk, V, idx t]
      have hidx := (idx t).2.2.2.2.2.2
      refine Eq.trans ?_ hs.symm
      split_ifs <;> omega

/-- The narrow array. -/
theorem final_narrow (c : Dev nD) : (dats m 0 c).arrAt 5 cfg0.N
    = Cert.Reference2Ideal.Read.val_main_v9 (F := Ideal) (m ((c : Thread nD τ).loc main_arg0)) (m ((c : Thread nD τ).loc main_arg1)) := by
  refine (dats m 0 c).arrAt_eq_of_covers 5 _ (by decide +kernel) fun t _ y => ?_
  blk_simp
  rw [after_5]
  refine Eq.trans ?_ (Cert.Reference2Ideal.InRef.ref_narrow_at _ _ _).symm
  have hn : ((((cfg0.win 5).blk t).view.emb y) 1).val = (y 1).val := by
    blk_simp
    rw [(idx t).2.2.2.2.2.1]
    show 0 * 128 + (y 1).val = (y 1).val
    omega
  unfold narrowAt prod
  refine (pay1_at _ _ _).trans (Finset.sum_congr rfl fun k _ => congrArg₂ (· * ·) ?_ ?_)
  · have ho : (opens t).val / 16 = t.val / 16 := by unfold opens; dsimp only; omega
    blk_point [iblk, V, idx t, idx (opens t), ho]
  · refine (X3_at m c _ _).trans ?_
    refine congrArg (fun q => m ((c : Thread nD τ).loc main_arg1) (ix3 0 k q)) (Fin.ext ?_)
    exact congrArg (5120 + ·) hn.symm

end Cert.Kernel2Ideal.InArray
-- ==== Proof.OutBlock.lean ====
/-
  The output projection, one grid point: what the kernel body leaves in its [512, 2048] output block. The body stores
  four column tiles of 512; each is the residual tile plus three block products, one per mixer output.
-/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.OutBlock

open Cert.Kernel3Ideal Cert.Kernel3Ideal.Gen Idealize.ShloMosaic Idealize.ShloMosaic.TcCoe Idealize.SL.Sem

/-- The block the body leaves, as one formula in the row `p` and the column `q`: the residual plus the three mixers'
    outputs against their rows of the output weight. -/
theorem out_at (x : FVec Ideal S512x2048 .f32) (yr : FVec Ideal S512x512 .bf16) (yg ym : FVec Ideal S512x768 .bf16)
    (w : FVec Ideal S1x2048x2048 .bf16) (y : S512x2048.Idx) :
    out0_5 (F := Ideal) x yr yg ym w y
      = ((x y + ∑ k : Fin 512, yr (ix2 (y 0) k) * w (ix3 0 ⟨k.val, by omega⟩ (y 1)))
          + ∑ k : Fin 768, yg (ix2 (y 0) k) * w (ix3 0 ⟨512 + k.val, by omega⟩ (y 1)))
          + ∑ k : Fin 768, ym (ix2 (y 0) k) * w (ix3 0 ⟨1280 + k.val, by omega⟩ (y 1)) := by
  unfold out0_5
  canon_tiles y h
  all_goals
    pointwise [k0_pay1, k0_pay2, k0_pay3, k0_pay4, k0_pay5, k0_pay6, k0_pay7, constant]
    blk_point

end Cert.Kernel3Ideal.OutBlock
-- ==== Proof.OutRef.lean ====
/-
  The output projection's reference, read at an index: the residual plus one sum over the 2048 columns of the three
  mixers' outputs side by side, cut at the two seams.
-/
module

public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Reference3Ideal.OutRef

open Cert.Reference3Ideal Cert.Reference3Ideal.Gen Cert.Reference3Ideal.Read
open Idealize.ShloMosaic Idealize.ShloMosaic.TcCoe Idealize.SL.Sem

/-- A sum over 2048 columns, cut after column 512 and after column 1280. -/
theorem sum_seams (f : Fin 2048 → EReal) :
    ∑ k, f k = ∑ k : Fin 512, f ⟨k.val, by omega⟩
      + (∑ k : Fin 768, f ⟨512 + k.val, by omega⟩ + ∑ k : Fin 768, f ⟨1280 + k.val, by omega⟩) := by
  refine (Fin.sum_univ_add (a := 512) (b := 768 + 768) f).trans (congrArg₂ (· + ·) rfl ?_)
  refine (Fin.sum_univ_add (a := 768) (b := 768) _).trans (congrArg₂ (· + ·) rfl (Finset.sum_congr rfl fun k _ => ?_))
  exact congrArg f (Fin.ext (by simp [Fin.natAdd]; omega))

/-- The reference at row `p`, column `q`: the one contraction over 2048 columns is the sum over the three mixers'
    512, 768 and 768 columns. -/
theorem ref_at (x : FVec Ideal S16384x2048 .f32) (yr : FVec Ideal S16384x512 .bf16) (yg ym : FVec Ideal S16384x768 .bf16)
    (w : FVec Ideal S2x2048x2048 .f32) (y : S16384x2048.Idx) :
    val_main_v7 (F := Ideal) x yr yg ym w y
      = ((x y + ∑ k : Fin 512, yr (ix2 (y 0) k) * w (ix3 1 ⟨k.val, by omega⟩ (y 1)))
          + ∑ k : Fin 768, yg (ix2 (y 0) k) * w (ix3 1 ⟨512 + k.val, by omega⟩ (y 1)))
          + ∑ k : Fin 768, ym (ix2 (y 0) k) * w (ix3 1 ⟨1280 + k.val, by omega⟩ (y 1)) := by
  pointwise [val_main_v7, val_main_v6, val_main_v5, val_main_v4, val_main_v3, val_main_v2, val_main_v1, val_main_v0]
  refine Eq.trans (congrArg (x y + ·) (sum_seams _)) ?_
  rw [add_assoc, add_assoc]
  refine congrArg (x y + ·) (congrArg₂ (· + ·) (Finset.sum_congr rfl fun k _ => ?_)
    (congrArg₂ (· + ·) (Finset.sum_congr rfl fun k _ => ?_) (Finset.sum_congr rfl fun k _ => ?_)))
  · rw [dif_pos (show k.val < 512 from k.isLt)]
  · have hk := k.isLt
    rw [dif_neg (show ¬ 512 + k.val < 512 by omega), dif_pos (show 512 + k.val - 512 < 768 by omega)]
    simp only [Nat.add_sub_cancel_left]
  · have hk := k.isLt
    rw [dif_neg (show ¬ 1280 + k.val < 512 by omega), dif_neg (show ¬ 1280 + k.val - 512 < 768 by omega)]
    simp only [show 1280 + k.val - 512 - 768 = k.val by omega]

end Cert.Reference3Ideal.OutRef
-- ==== Proof.OutArray.lean ====
/-
  The output projection's array after the run: the 32 row blocks of 512 cover it, and each block holds the
  reference's value at its place.
-/
module

public import proofs.«01_k».proof.Proof.OutBlock
public import proofs.«01_k».proof.Proof.OutRef

@[expose] public section

set_option maxRecDepth 16384

noncomputable section

namespace Cert.Kernel3Ideal.OutArray

open Cert.Kernel3Ideal Cert.Kernel3Ideal.Gen Idealize.ShloMosaic Idealize.ShloMosaic.TcCoe Idealize.SL.Sem

variable (m : (ℓ : Loc nD τ sig) → Buf (Elt Ideal) ℓ)

/-- Where each window's block lies at grid point `t`: row block `t`, except the weight, which stays at layer 1. -/
theorem idx : ∀ t : Fin cfg0.N, win0_0.index t = ![t.val, 0] ∧ win0_1.index t = ![t.val, 0] ∧ win0_2.index t = ![t.val, 0]
    ∧ win0_3.index t = ![t.val, 0] ∧ win0_4.index t = ![1, 0, 0] ∧ win0_5.index t = ![t.val, 0] ∧ t.val < 32 :=
  (by decide +kernel : ∀ t : Fin grid0.N, _)

/-- The array the kernel leaves is the reference's, over the argument arrays. -/
theorem final (c : Dev nD) : (dats m 0 c).arrAt 5 cfg0.N
    = Cert.Reference3Ideal.Read.val_main_v7 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine (OutBlock.out_at _ _ _ _ _ _).trans (Eq.trans ?_ (Cert.Reference3Ideal.OutRef.ref_at _ _ _ _ _ _).symm)
  blk_point [iblk, V, idx t]

end Cert.Kernel3Ideal.OutArray
-- ==== Proof.NormBlock.lean ====
/-
  The norm of a row: what the kernel body leaves in its [512, 2048] block, and the kernel's array after the run.
-/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Kernel4Ideal.NormBlock

open Cert.Kernel4Ideal Cert.Kernel4Ideal.Gen Idealize.ShloMosaic Idealize.ShloMosaic.TcCoe Idealize.SL.Sem

/-- A row's entry `q`, divided by the root of the row's mean square and scaled by `w`. -/
def normed (r : Fin 2048 → EReal) (q : Fin 2048) (w : EReal) : EReal :=
  r q * Ideal.rsqrt (Ideal.div (∑ k, r k * r k) (Ideal.ofBits .f32 0x45000000#32) + Ideal.ofBits .f32 0x358637BD#32) * w

/-- The block the body leaves: each row normed. -/
theorem out_at (x : FVec Ideal S512x2048 .f32) (w : FVec Ideal S1x2048 .f32) (y : S512x2048.Idx) :
    out0_2 (F := Ideal) x w y = normed (fun k => x (ix2 (y 0) k)) (y 1) (w (ix2 0 (y 1))) := by
  unfold out0_2 normed
  canon_tiles y h
  pointwise [k0_pay1, constant]
  blk_point

/-- The reference: each row of each sequence normed. -/
theorem ref_at (x : FVec Ideal S2x8192x2048 .f32) (w : FVec Ideal S2x2048 .f32) (y : S16384x2048.Idx) :
    Cert.Reference4Ideal.Read.val_main_v16 (F := Ideal) x w y
      = normed (fun k => x (ix3 ⟨(y 0).val / 8192, by have : (y 0).val < 16384 := (y 0).isLt; omega⟩ ⟨(y 0).val % 8192, by omega⟩ k)) (y 1) (w (ix2 0 (y 1))) := by
  unfold normed
  open Cert.Reference4Ideal.Read in
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, constant]

theorem rows_at (X : FVec Ideal S2x8192x2048 .f32) (i : S16384x2048.Idx) : shapeCast S16384x2048 X shapeCasts_S2x8192x2048_S16384x2048 i
    = X (ix3 ⟨(i 0).val / 8192, by have : (i 0).val < 16384 := (i 0).isLt; omega⟩ ⟨(i 0).val % 8192, by omega⟩ (i 1)) := by
  pointwise

theorem layer_at (W : FVec Ideal S2x2048 .f32) (i : S1x2048.Idx) :
    shapeCast S1x2048 (shapeCast S2048 (extractStridedSlice S1x2048 ![0, 0] W slices_S2x2048_S1x2048_0_0) shapeCasts_S1x2048_S2048) shapeCasts_S2048_S1x2048 i
      = W (ix2 0 (i 1)) := by
  pointwise

variable (m : (ℓ : Loc nD τ sig) → Buf (Elt Ideal) ℓ)

/-- Row block `t` of the input and of the output; the weights' one block. -/
theorem idx : ∀ t : Fin cfg0.N, win0_0.index t = ![t.val, 0] ∧ win0_1.index t = ![0, 0] ∧ win0_2.index t = ![t.val, 0] ∧ t.val < 32 :=
  (by decide +kernel : ∀ t : Fin grid0.N, _)

/-- The rows as the region finds them: the two sequences one under the other. -/
theorem V_x (c : Dev nD) (i : S16384x2048.Idx) : V m c main_v0 i
    = m ((c : Thread nD τ).loc main_arg0) (ix3 ⟨(i 0).val / 8192, by have : (i 0).val < 16384 := (i 0).isLt; omega⟩ ⟨(i 0).val % 8192, by omega⟩ (i 1)) := by
  have h : V m c main_v0 = shapeCast S16384x2048 (m ((c : Thread nD τ).loc main_arg0) : FVec Ideal S2x8192x2048 .f32) shapeCasts_S2x8192x2048_S16384x2048 := by
    unfold V hostOps0
    after_results
    rfl
  rw [h]
  exact rows_at _ i

/-- The weights as the region finds them: layer 0's. -/
theorem V_w (c : Dev nD) (i : S1x2048.Idx) : V m c main_v3 i = m ((c : Thread nD τ).loc main_arg1) (ix2 0 (i 1)) := by
  have h : V m c main_v3 = shapeCast S1x2048 (shapeCast S2048 (extractStridedSlice S1x2048 ![0, 0] (m ((c : Thread nD τ).loc main_arg1) : FVec Ideal S2x2048 .f32) slices_S2x2048_S1x2048_0_0) shapeCasts_S1x2048_S2048) shapeCasts_S2048_S1x2048 := by
    unfold V hostOps0
    after_results
    rfl
  rw [h]
  exact layer_at _ i

theorem x_at (c : Dev nD) (t : Fin cfg0.N) (i : S512x2048.Idx) (j : S16384x2048.Idx) (h0 : (j 0).val = t.val * 512 + (i 0).val)
    (h1 : (j 1).val = (i 1).val) : iblk m c 0 t i = V m c main_v0 j := by
  refine congrArg (V m c main_v0) (funext fun a => Fin.ext ?_)
  match a with
  | ⟨0, _⟩ => blk_simp; rw [(idx t).1]; exact h0.symm
  | ⟨1, _⟩ => blk_simp; rw [(idx t).1]; refine Eq.trans ?_ h1.symm; show 0 * 2048 + (i 1).val = _; omega

theorem w_at (c : Dev nD) (t : Fin cfg0.N) (i : S1x2048.Idx) : iblk m c 1 t i = V m c main_v3 i := by
  refine congrArg (V m c main_v3) (funext fun a => Fin.ext ?_)
  match a with
  | ⟨0, _⟩ => blk_simp; rw [(idx t).2.1]; rfl
  | ⟨1, _⟩ => blk_simp; rw [(idx t).2.1]; exact Nat.zero_add _

/-- The array the kernel leaves is the reference's, over the argument arrays. -/
theorem final (c : Dev nD) : (dats m 0 c).arrAt 2 cfg0.N
    = Cert.Reference4Ideal.Read.val_main_v16 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  refine (out_at _ _ _).trans (Eq.trans ?_ (ref_at _ _ _).symm)
  generalize hj : ((cfg0.win 2).blk t).view.emb y = j
  have h0 : (j 0).val = t.val * 512 + (y 0).val := by rw [← hj]; blk_simp; rw [(idx t).2.2.1]; rfl
  have h1 : j 1 = y 1 := Fin.ext (by rw [← hj]; blk_simp; rw [(idx t).2.2.1]; show 0 * 2048 + (y 1).val = _; omega)
  rw [h1]
  refine congrArg₂ (fun r w => normed r (y 1) w) (funext fun k => ?_) ?_
  · exact (x_at m c t (ix2 (y 0) k) (ix2 (j 0) k) h0 rfl).trans (V_x m c _)
  · exact (w_at m c t _).trans (V_w m c _)

end Cert.Kernel4Ideal.NormBlock
-- ==== Proof.BothBlock.lean ====
/-
  The output projection with the next layer's norm, one grid point: the four column tiles of the first output block are
  the residual plus three block products; the second block is the norm of the first's rows, read back after the stores.
-/
module

public import proofs.«01_k».proof.Proof.NormBlock
public import proofs.«01_k».proof.Proof.OutRef
public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.BothBlock

open Cert.Kernel5Ideal Cert.Kernel5Ideal.Gen Idealize.ShloMosaic Idealize.ShloMosaic.TcCoe Idealize.SL.Sem
open Cert.Kernel4Ideal.NormBlock (normed)

variable (m : (ℓ : Loc nD τ sig) → Buf (Elt Ideal) ℓ)

/-- An entry of the projection: the residual plus the three mixers' outputs against their rows of the weight's column. -/
def summed (x : EReal) (yr : Fin 512 → EReal) (yg ym : Fin 768 → EReal) (w : Fin 2048 → EReal) : EReal :=
  ((x + ∑ k : Fin 512, yr k * w ⟨k.val, by omega⟩) + ∑ k : Fin 768, yg k * w ⟨512 + k.val, by omega⟩)
    + ∑ k : Fin 768, ym k * w ⟨1280 + k.val, by omega⟩

/-- The first block a point leaves. -/
theorem sum_at (c : Dev nD) (t : Fin cfg0.N) (y : S512x2048.Idx) : (outsAt0 m c t).1 y
    = summed (iblk m c 0 t y) (fun k => iblk m c 1 t (ix2 (y 0) k)) (fun k => iblk m c 2 t (ix2 (y 0) k)) (fun k => iblk m c 3 t (ix2 (y 0) k))
        (fun k => iblk m c 4 t (ix3 0 k (y 1))) := by
  unfold outsAt0 summed
  frame_out
  generalize (iblk m c 0 t : FVec Ideal S512x2048 .f32) = x
  generalize (iblk m c 1 t : FVec Ideal S512x512 .bf16) = yr
  generalize (iblk m c 2 t : FVec Ideal S512x768 .bf16) = yg
  generalize (iblk m c 3 t : FVec Ideal S512x768 .bf16) = ym
  generalize (iblk m c 4 t : FVec Ideal S1x2048x2048 .bf16) = w
  canon_tiles y h
  all_goals
    pointwise [k0_pay1, k0_pay3, k0_pay4, k0_pay5, k0_pay6, k0_pay7, k0_pay8, constant]
    blk_point

/-- The norm of a block's rows. -/
theorem pay2_at (z : FVec Ideal S512x2048 .f32) (w : FVec Ideal S1x2048 .f32) (y : S512x2048.Idx) :
    k0_pay2 (F := Ideal) z w y = normed (fun k => z (ix2 (y 0) k)) (y 1) (w (ix2 0 (y 1))) := by
  unfold normed
  pointwise [k0_pay2, constant]

/-- The second block a point leaves: the rows of the first, normed. -/
theorem norm_at (c : Dev nD) (t : Fin cfg0.N) (y : S512x2048.Idx) : (outsAt0 m c t).2 y
    = normed (fun k => (outsAt0 m c t).1 (ix2 (y 0) k)) (y 1) (iblk m c 5 t (ix2 0 (y 1))) := by
  refine Eq.trans ?_ (pay2_at _ _ y)
  unfold outsAt0
  frame_out
  rw [View.readCov_eq_canon']
  refine congrArg (fun z => k0_pay2 z (iblk m c 5 t) y) (funext fun j => congrArg (View.canon _) (funext fun a => Fin.ext ?_))
  match a with
  | ⟨0, _⟩ => show 0 + 1 * (j 0).val = (j 0).val; omega
  | ⟨1, _⟩ => show 0 + 1 * (j 1).val = (j 1).val; omega

end Cert.Kernel5Ideal.BothBlock
-- ==== Proof.BothArray.lean ====
/-
  The output projection with the next layer's norm: the reference read at an index, and the two arrays the kernel
  leaves.
-/
module

public import proofs.«01_k».proof.Proof.BothBlock
public import proofs.«01_k».proof.Proof.Gen.Reference5Ideal.Run
public import proofs.«01_k».proof.Proof.Gen.Reference5Ideal.Read

@[expose] public section

set_option maxRecDepth 16384

noncomputable section

namespace Cert.Reference5Ideal.BothRef

open Cert.Reference5Ideal Cert.Reference5Ideal.Gen Cert.Reference5Ideal.Read Idealize.ShloMosaic Idealize.ShloMosaic.TcCoe Idealize.SL.Sem
open Cert.Kernel4Ideal.NormBlock (normed)
open Cert.Kernel5Ideal.BothBlock (summed)

/-- The projection at row `p`, column `q`. -/
theorem sum_at (x : FVec Ideal S16384x2048 .f32) (yr : FVec Ideal S16384x512 .bf16) (yg ym : FVec Ideal S16384x768 .bf16)
    (w : FVec Ideal S2x2048x2048 .f32) (y : S16384x2048.Idx) :
    val_main_v7 (F := Ideal) x yr yg ym w y
      = summed (x y) (fun k => yr (ix2 (y 0) k)) (fun k => yg (ix2 (y 0) k)) (fun k => ym (ix2 (y 0) k)) (fun k => w (ix3 0 k (y 1))) := by
  unfold summed
  pointwise [val_main_v7, val_main_v6, val_main_v5, val_main_v4, val_main_v3, val_main_v2, val_main_v1, val_main_v0]
  refine Eq.trans (congrArg (x y + ·) (Cert.Reference3Ideal.OutRef.sum_seams _)) ?_
  rw [add_assoc, add_assoc]
  refine congrArg (x y + ·) (congrArg₂ (· + ·) (Finset.sum_congr rfl fun k _ => ?_)
    (congrArg₂ (· + ·) (Finset.sum_congr rfl fun k _ => ?_) (Finset.sum_congr rfl fun k _ => ?_)))
  · rw [dif_pos (show k.val < 512 from k.isLt)]
  · have hk := k.isLt
    rw [dif_neg (show ¬ 512 + k.val < 512 by omega), dif_pos (show 512 + k.val - 512 < 768 by omega)]
    simp only [Nat.add_sub_cancel_left]
  · have hk := k.isLt
    rw [dif_neg (show ¬ 1280 + k.val < 512 by omega), dif_neg (show ¬ 1280 + k.val - 512 < 768 by omega)]
    simp only [show 1280 + k.val - 512 - 768 = k.val by omega]

/-- The norm of the projection's rows. -/
theorem norm_at (x : FVec Ideal S16384x2048 .f32) (yr : FVec Ideal S16384x512 .bf16) (yg ym : FVec Ideal S16384x768 .bf16)
    (w : FVec Ideal S2x2048x2048 .f32) (n : FVec Ideal S2x2048 .f32) (y : S16384x2048.Idx) :
    val_main_v23 (F := Ideal) x yr yg ym w n y
      = normed (fun k => val_main_v7 (F := Ideal) x yr yg ym w (ix2 (y 0) k)) (y 1) (n (ix2 1 (y 1))) := by
  unfold normed
  pointwise [val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, constant]

end Cert.Reference5Ideal.BothRef

namespace Cert.Kernel5Ideal.BothArray

open Cert.Kernel5Ideal Cert.Kernel5Ideal.Gen Cert.Kernel5Ideal.BothBlock Idealize.ShloMosaic Idealize.ShloMosaic.TcCoe Idealize.SL.Sem
open Cert.Kernel4Ideal.NormBlock (normed)

variable (m : (ℓ : Loc nD τ sig) → Buf (Elt Ideal) ℓ)

/-- Where each window's block lies at grid point `t`: row block `t`, except the weights, which stay at layer 0, and the
    norm's weights, one block. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![t.val, 0]
    ∧ win0_7.index t = ![t.val, 0] ∧ t.val < 32 :=
  (by decide +kernel : ∀ t : Fin grid0.N, _)

/-- The projection, over the argument arrays. -/
abbrev proj (c : Dev nD) : FVec Ideal S16384x2048 .f32 :=
  Cert.Reference5Ideal.Read.val_main_v7 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The first block a point leaves is the projection's row block. -/
theorem block_at (c : Dev nD) (t : Fin cfg0.N) (y : S512x2048.Idx) (j : S16384x2048.Idx) (h0 : (j 0).val = t.val * 512 + (y 0).val)
    (h1 : (j 1).val = (y 1).val) : (outsAt0 m c t).1 y = proj m c j := by
  refine (BothBlock.sum_at m c t y).trans (Eq.trans ?_ (Cert.Reference5Ideal.BothRef.sum_at _ _ _ _ _ _).symm)
  refine congr (congr (congr (congr (congrArg summed ?_) (funext fun k => ?_)) (funext fun k => ?_)) (funext fun k => ?_)) (funext fun k => ?_) <;>
    blk_point [iblk, V, idx t, h0, h1]

/-- The projection's array. -/
theorem final (c : Dev nD) : (dats m 0 c).arrAt 6 cfg0.N = proj m c := by
  refine (dats m 0 c).arrAt_eq_of_covers 6 _ (by decide +kernel) fun t _ y => ?_
  blk_simp
  rw [after0_6]
  refine block_at m c t y _ ?_ ?_
  · blk_simp; rw [(idx t).2.2.2.2.2.2.1]; rfl
  · blk_simp; rw [(idx t).2.2.2.2.2.2.1]; show 0 * 2048 + (y 1).val = _; omega

theorem layer_at (W : FVec Ideal S2x2048 .f32) (i : S1x2048.Idx) :
    shapeCast S1x2048 (shapeCast S2048 (extractStridedSlice S1x2048 ![1, 0] W slices_S2x2048_S1x2048_1_0) shapeCasts_S1x2048_S2048) shapeCasts_S2048_S1x2048 i
      = W (ix2 1 (i 1)) := by
  pointwise

/-- The norm's weights as the region finds them: layer 1's. -/
theorem V_w (c : Dev nD) (i : S1x2048.Idx) : V m c main_v3 i = m ((c : Thread nD τ).loc main_arg5) (ix2 1 (i 1)) := by
  have h : V m c main_v3 = shapeCast S1x2048 (shapeCast S2048 (extractStridedSlice S1x2048 ![1, 0] (m ((c : Thread nD τ).loc main_arg5) : FVec Ideal S2x2048 .f32) slices_S2x2048_S1x2048_1_0) shapeCasts_S1x2048_S2048) shapeCasts_S2048_S1x2048 := by
    unfold V hostOps0
    after_results
    rfl
  rw [h]
  exact layer_at _ i

theorem w_at (c : Dev nD) (t : Fin cfg0.N) (i : S1x2048.Idx) : iblk m c 5 t i = V m c main_v3 i := by
  refine congrArg (V m c main_v3) (funext fun a => Fin.ext ?_)
  match a with
  | ⟨0, _⟩ => blk_simp; rw [(idx t).2.2.2.2.2.1]; rfl
  | ⟨1, _⟩ => blk_simp; rw [(idx t).2.2.2.2.2.1]; exact Nat.zero_add _

/-- The normed rows' array. -/
theorem final_norm (c : Dev nD) : (dats m 0 c).arrAt 7 cfg0.N
    = Cert.Reference5Ideal.Read.val_main_v23 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  refine (BothBlock.norm_at m c t y).trans (Eq.trans ?_ (Cert.Reference5Ideal.BothRef.norm_at _ _ _ _ _ _ _).symm)
  generalize hj : ((cfg0.win 7).blk t).view.emb y = j
  have h0 : (j 0).val = t.val * 512 + (y 0).val := by rw [← hj]; blk_simp; rw [(idx t).2.2.2.2.2.2.2.1]; rfl
  have h1 : j 1 = y 1 := Fin.ext (by rw [← hj]; blk_simp; rw [(idx t).2.2.2.2.2.2.2.1]; show 0 * 2048 + (y 1).val = _; omega)
  rw [h1]
  refine congrArg₂ (fun r w => normed r (y 1) w) (funext fun k => ?_) ?_
  · exact block_at m c t (ix2 (y 0) k) (ix2 (j 0) k) h0 rfl
  · exact (w_at m c t _).trans (V_w m c _)

end Cert.Kernel5Ideal.BothArray

end
-- ==== Proof.PrepBlock.lean ====
/-
  The preparation of the block-sparse attention's keys and values, one grid point: the three blocks the body leaves.
-/
module

public import proofs.«01_k».proof.Proof.Gen.Kernel6Ideal.Value
public import Idealize.ShloMosaic.Lib.Pipeline.ValueKit
public import Idealize.ShloMosaic.Lib.Pointwise
public import Idealize.ShloMosaic.Lib.IdealHost

@[expose] public section

set_option maxRecDepth 16384

noncomputable section

namespace Cert.Kernel6Ideal.PrepBlock

open Cert.Kernel6Ideal Cert.Kernel6Ideal.Gen Idealize.ShloMosaic Idealize.ShloMosaic.TcCoe Idealize.SL.Sem

variable (m : (ℓ : Loc nD τ sig) → Buf (Elt Ideal) ℓ)

/-- Entry `q` of a head's row, divided by the root of the row's mean square and scaled by `w`. -/
def normed (r : Fin 128 → EReal) (q : Fin 128) (w : EReal) : EReal :=
  r q * Ideal.rsqrt (Ideal.div (∑ k, r k * r k) (Ideal.ofBits .f32 0x43000000#32) + Ideal.ofBits .f32 0x358637BD#32) * w

/-- The normed keys of one head. -/
theorem norm_at (z : FVec Ideal S1024x128 .bf16) (w : FVec Ideal S1x128 .f32) (x : S1024x128.Idx) :
    k0_pay4 (F := Ideal) z w x = normed (fun k => z (ix2 (x 0) k)) (x 1) (w (ix2 0 (x 1))) := by
  unfold normed
  pointwise [k0_pay4, constant]

theorem key_at (z : FVec Ideal S1024x128 .bf16) (w : FVec Ideal S1x128 .f32) (x : S1x1x1024x128.Idx) :
    k0_pay5 (F := Ideal) z w x = normed (fun k => z (ix2 (x 2) k)) (x 3) (w (ix2 0 (x 3))) := by
  refine Eq.trans ?_ (norm_at z w (ix2 (x 2) (x 3)))
  unfold k0_pay5
  generalize k0_pay4 (F := Ideal) z w = v
  pointwise

theorem lay_at (z : FVec Ideal S1024x128 .bf16) (x : S1x1x1024x128.Idx) : k0_pay6 (F := Ideal) z x = z (ix2 (x 2) (x 3)) := by
  pointwise [k0_pay6]

/-- A row of the first block: the normed key, then the row's features. -/
def keyed (x : FVec Ideal S1024x768 .bf16) (w : FVec Ideal S1x128 .f32) (f : FVec Ideal S1024x128 .bf16) (y : S1x6x1024x256.Idx) : EReal :=
  if h : (y 3).val < 128 then
    normed (fun k => x (ix2 (y 2) ⟨(y 1).val * 128 + k.val, by have : (y 1).val < 6 := (y 1).isLt; omega⟩)) ⟨(y 3).val, h⟩ (w (ix2 0 ⟨(y 3).val, h⟩))
  else f (ix2 (y 2) ⟨(y 3).val - 128, by have : (y 3).val < 256 := (y 3).isLt; omega⟩)

theorem feat_tile (x : FVec Ideal S1024x768 .bf16) (w : FVec Ideal S1x128 .f32) (f : FVec Ideal S1024x128 .bf16) (y : S1x1x1024x128.Idx)
    (Y : S1x6x1024x256.Idx) (h2 : (Y 2).val = (y 2).val) (h3 : (Y 3).val = 128 + (y 3).val) : k0_pay6 (F := Ideal) f y = keyed x w f Y := by
  unfold keyed
  rw [dif_neg (by omega), lay_at]
  refine congrArg f (congrArg₂ ix2 (Fin.ext h2.symm) (Fin.ext ?_))
  show (y 3).val = (Y 3).val - 128
  omega

theorem ld_at (x : FVec Ideal S1024x768 .bf16) (n : ℕ) (hn : ∀ a, (![0, n] : Fin 2 → ℕ) a + (![1024, 128] : Fin 2 → ℕ) a ≤ S1024x768.size a)
    (i : S1024x128.Idx) (j : S1024x768.Idx) (h0 : (j 0).val = (i 0).val) (h1 : (j 1).val = n + (i 1).val) :
    View.ld (Val := Elt Ideal) (e' := .bf16) x (Rect.unit (s := S1024x768) ![0, n] ![1024, 128] hn) i = x j := by
  refine congrArg x (funext fun a => Fin.ext ?_)
  match a with
  | ⟨0, _⟩ => show 0 + 1 * (i 0).val = (j 0).val; omega
  | ⟨1, _⟩ => show n + 1 * (i 1).val = (j 1).val; omega

theorem key_tile (x : FVec Ideal S1024x768 .bf16) (w : FVec Ideal S1x128 .f32) (f : FVec Ideal S1024x128 .bf16) (h : ℕ)
    (hn : ∀ a, (![0, h * 128] : Fin 2 → ℕ) a + (![1024, 128] : Fin 2 → ℕ) a ≤ S1024x768.size a) (y : S1x1x1024x128.Idx)
    (Y : S1x6x1024x256.Idx) (h1 : (Y 1).val = h) (h2 : (Y 2).val = (y 2).val) (h3 : (Y 3).val = (y 3).val) :
    k0_pay5 (F := Ideal) (View.ld (Val := Elt Ideal) (e' := .bf16) x (Rect.unit (s := S1024x768) ![0, h * 128] ![1024, 128] hn)) w y = keyed x w f Y := by
  have hy : (y 3).val < 128 := (y 3).isLt
  unfold keyed
  rw [dif_pos (by omega), key_at]
  have e3 : y 3 = ⟨(Y 3).val, by omega⟩ := Fin.ext h3.symm
  rw [e3]
  refine congrArg (fun r => normed r _ _) (funext fun k => ld_at x (h * 128) hn _ _ h2 ?_)
  show (Y 1).val * 128 + k.val = h * 128 + k.val
  rw [h1]

theorem keys_at (c : Dev nD) (t : Fin cfg0.N) (y : S1x6x1024x256.Idx) :
    (outsAt0 m c t).1 y = keyed (X0_0 m c t) (iblk m c 2 t) (iblk m c 3 t) y := by
  unfold outsAt0
  frame_out
  generalize (X0_0 m c t : FVec Ideal S1024x768 .bf16) = x
  generalize (iblk m c 2 t : FVec Ideal S1x128 .f32) = w
  generalize (iblk m c 3 t : FVec Ideal S1024x128 .bf16) = f
  canon_tiles y h
  case piece0 => exact feat_tile x w f _ _ h2 h3
  case piece1 => exact key_tile x w f 5 inb_S1024x768_S1024x128_0_640 _ _ (by omega) h2 h3
  case piece2 => exact feat_tile x w f _ _ h2 h3
  case piece3 => exact key_tile x w f 4 inb_S1024x768_S1024x128_0_512 _ _ (by omega) h2 h3
  case piece4 => exact feat_tile x w f _ _ h2 h3
  case piece5 => exact key_tile x w f 3 inb_S1024x768_S1024x128_0_384 _ _ (by omega) h2 h3
  case piece6 => exact feat_tile x w f _ _ h2 h3
  case piece7 => exact key_tile x w f 2 inb_S1024x768_S1024x128_0_256 _ _ (by omega) h2 h3
  case piece8 => exact feat_tile x w f _ _ h2 h3
  case piece9 => exact key_tile x w f 1 inb_S1024x768_S1024x128_0_128 _ _ (by omega) h2 h3
  case piece10 => exact feat_tile x w f _ _ h2 h3
  case piece11 => exact key_tile x w f 0 inb_S1024x768_S1024x128_0_0 _ _ (by omega) h2 h3

/-- A row of the second block: the value, then ones. -/
def valued (x : FVec Ideal S1024x768 .bf16) (y : S1x6x1024x256.Idx) : EReal :=
  if h : (y 3).val < 128 then
    x (ix2 (y 2) ⟨(y 1).val * 128 + (y 3).val, by have : (y 1).val < 6 := (y 1).isLt; omega⟩)
  else 1

theorem one_at (x : S1x1x1024x128.Idx) : k0_pay2 (F := Ideal) k0_pay3 x = 1 := by
  pointwise [k0_pay2, k0_pay3]

theorem one_tile (x : FVec Ideal S1024x768 .bf16) (y : S1x1x1024x128.Idx) (Y : S1x6x1024x256.Idx) (h3 : (Y 3).val = 128 + (y 3).val) :
    k0_pay2 (F := Ideal) k0_pay3 y = valued x Y := by
  unfold valued
  rw [dif_neg (by omega), one_at]

theorem val_tile (x : FVec Ideal S1024x768 .bf16) (h : ℕ)
    (hn : ∀ a, (![0, h * 128] : Fin 2 → ℕ) a + (![1024, 128] : Fin 2 → ℕ) a ≤ S1024x768.size a) (y : S1x1x1024x128.Idx)
    (Y : S1x6x1024x256.Idx) (h1 : (Y 1).val = h) (h2 : (Y 2).val = (y 2).val) (h3 : (Y 3).val = (y 3).val) :
    k0_pay6 (F := Ideal) (View.ld (Val := Elt Ideal) (e' := .bf16) x (Rect.unit (s := S1024x768) ![0, h * 128] ![1024, 128] hn)) y = valued x Y := by
  have hy : (y 3).val < 128 := (y 3).isLt
  unfold valued
  rw [dif_pos (by omega), lay_at]
  refine ld_at x (h * 128) hn _ _ h2 ?_
  show (Y 1).val * 128 + (Y 3).val = h * 128 + (y 3).val
  rw [h1, h3]

theorem vals_at (c : Dev nD) (t : Fin cfg0.N) (y : S1x6x1024x256.Idx) : (outsAt0 m c t).2.1 y = valued (X0_1 m c t) y := by
  unfold outsAt0
  frame_out
  generalize (X0_1 m c t : FVec Ideal S1024x768 .bf16) = x
  canon_tiles y h
  case piece0 => exact one_tile x _ _ h3
  case piece1 => exact val_tile x 5 inb_S1024x768_S1024x128_0_640 _ _ (by omega) h2 h3
  case piece2 => exact one_tile x _ _ h3
  case piece3 => exact val_tile x 4 inb_S1024x768_S1024x128_0_512 _ _ (by omega) h2 h3
  case piece4 => exact one_tile x _ _ h3
  case piece5 => exact val_tile x 3 inb_S1024x768_S1024x128_0_384 _ _ (by omega) h2 h3
  case piece6 => exact one_tile x _ _ h3
  case piece7 => exact val_tile x 2 inb_S1024x768_S1024x128_0_256 _ _ (by omega) h2 h3
  case piece8 => exact one_tile x _ _ h3
  case piece9 => exact val_tile x 1 inb_S1024x768_S1024x128_0_128 _ _ (by omega) h2 h3
  case piece10 => exact one_tile x _ _ h3
  case piece11 => exact val_tile x 0 inb_S1024x768_S1024x128_0_0 _ _ (by omega) h2 h3

/-- The mean of 256 rows. -/
theorem mean_at (u : FVec Ideal S256x128 .f32) (x : S1x1x1x128.Idx) :
    k0_pay58 (F := Ideal) (multiReduction .add [0] S128 u 0x00000000#32 reduces_S256x128_S128 (.inl rfl) rfl) x
      = Ideal.div (∑ r, u (ix2 r (x 3))) (Ideal.ofBits .f32 0x43800000#32) := by
  pointwise [k0_pay58, constant]

/-- An entry of the third block: the mean of a head's normed keys over a block of 256 rows. -/
def meaned (x : FVec Ideal S1024x768 .bf16) (w : FVec Ideal S1x128 .f32) (y : S1x4x1x768.Idx) : EReal :=
  Ideal.div (∑ r : Fin 256, normed
      (fun k => x (ix2 ⟨(y 1).val * 256 + r.val, by have : (y 1).val < 4 := (y 1).isLt; omega⟩ ⟨(y 3).val / 128 * 128 + k.val, by have : (y 3).val < 768 := (y 3).isLt; omega⟩))
      ⟨(y 3).val % 128, Nat.mod_lt _ (by norm_num)⟩ (w (ix2 0 ⟨(y 3).val % 128, Nat.mod_lt _ (by norm_num)⟩)))
    (Ideal.ofBits .f32 0x43800000#32)

theorem mean_tile (x : FVec Ideal S1024x768 .bf16) (w : FVec Ideal S1x128 .f32) (j h : ℕ)
    (hs : S1024x128.Slices ![j * 256, 0] S256x128)
    (hn : ∀ a, (![0, h * 128] : Fin 2 → ℕ) a + (![1024, 128] : Fin 2 → ℕ) a ≤ S1024x768.size a) (y : S1x1x1x128.Idx)
    (Y : S1x4x1x768.Idx) (h1 : (Y 1).val = j) (h3 : (Y 3).val = h * 128 + (y 3).val) :
    k0_pay58 (F := Ideal) (multiReduction .add [0] S128 (extractStridedSlice S256x128 ![j * 256, 0]
        (k0_pay4 (F := Ideal) (View.ld (Val := Elt Ideal) (e' := .bf16) x (Rect.unit (s := S1024x768) ![0, h * 128] ![1024, 128] hn)) w) hs)
        0x00000000#32 reduces_S256x128_S128 (.inl rfl) rfl) y = meaned x w Y := by
  have hy : (y 3).val < 128 := (y 3).isLt
  have hY : (Y 1).val < 4 := (Y 1).isLt
  rw [mean_at]
  unfold meaned
  refine congrArg (fun s => Ideal.div s _) (Finset.sum_congr rfl fun r _ => ?_)
  have hr := r.isLt
  refine (extractStridedSlice_apply _ _ hs _ (ix2 ⟨j * 256 + r.val, by omega⟩ (y 3)) (fun a => match a with
    | ⟨0, _⟩ => rfl
    | ⟨1, _⟩ => (Nat.zero_add _).symm)).trans ((norm_at _ _ _).trans ?_)
  have e3 : y 3 = ⟨(Y 3).val % 128, Nat.mod_lt _ (by norm_num)⟩ := Fin.ext (by show (y 3).val = (Y 3).val % 128; omega)
  show normed _ (y 3) (w (ix2 0 (y 3))) = _
  rw [e3]
  refine congrArg (fun r => normed r _ _) (funext fun k => ld_at x (h * 128) hn _ _ ?_ ?_)
  · show (Y 1).val * 256 + r.val = j * 256 + r.val
    rw [h1]
  · show (Y 3).val / 128 * 128 + k.val = h * 128 + k.val
    omega

theorem means_at (c : Dev nD) (t : Fin cfg0.N) (y : S1x4x1x768.Idx) :
    (outsAt0 m c t).2.2 y = meaned (X0_0 m c t) (iblk m c 2 t) y := by
  unfold outsAt0
  frame_out
  generalize (X0_0 m c t : FVec Ideal S1024x768 .bf16) = x
  generalize (iblk m c 2 t : FVec Ideal S1x128 .f32) = w
  canon_tiles y h
  case piece0 => exact mean_tile x w 3 5 slices_S1024x128_o768_0_S256x128 inb_S1024x768_S1024x128_0_640 _ _ (by omega) (by omega)
  case piece1 => exact mean_tile x w 2 5 slices_S1024x128_o512_0_S256x128 inb_S1024x768_S1024x128_0_640 _ _ (by omega) (by omega)
  case piece2 => exact mean_tile x w 1 5 slices_S1024x128_o256_0_S256x128 inb_S1024x768_S1024x128_0_640 _ _ (by omega) (by omega)
  case piece3 => exact mean_tile x w 0 5 slices_S1024x128_o0_0_S256x128 inb_S1024x768_S1024x128_0_640 _ _ (by omega) (by omega)
  case piece4 => exact mean_tile x w 3 4 slices_S1024x128_o768_0_S256x128 inb_S1024x768_S1024x128_0_512 _ _ (by omega) (by omega)
  case piece5 => exact mean_tile x w 2 4 slices_S1024x128_o512_0_S256x128 inb_S1024x768_S1024x128_0_512 _ _ (by omega) (by omega)
  case piece6 => exact mean_tile x w 1 4 slices_S1024x128_o256_0_S256x128 inb_S1024x768_S1024x128_0_512 _ _ (by omega) (by omega)
  case piece7 => exact mean_tile x w 0 4 slices_S1024x128_o0_0_S256x128 inb_S1024x768_S1024x128_0_512 _ _ (by omega) (by omega)
  case piece8 => exact mean_tile x w 3 3 slices_S1024x128_o768_0_S256x128 inb_S1024x768_S1024x128_0_384 _ _ (by omega) (by omega)
  case piece9 => exact mean_tile x w 2 3 slices_S1024x128_o512_0_S256x128 inb_S1024x768_S1024x128_0_384 _ _ (by omega) (by omega)
  case piece10 => exact mean_tile x w 1 3 slices_S1024x128_o256_0_S256x128 inb_S1024x768_S1024x128_0_384 _ _ (by omega) (by omega)
  case piece11 => exact mean_tile x w 0 3 slices_S1024x128_o0_0_S256x128 inb_S1024x768_S1024x128_0_384 _ _ (by omega) (by omega)
  case piece12 => exact mean_tile x w 3 2 slices_S1024x128_o768_0_S256x128 inb_S1024x768_S1024x128_0_256 _ _ (by omega) (by omega)
  case piece13 => exact mean_tile x w 2 2 slices_S1024x128_o512_0_S256x128 inb_S1024x768_S1024x128_0_256 _ _ (by omega) (by omega)
  case piece14 => exact mean_tile x w 1 2 slices_S1024x128_o256_0_S256x128 inb_S1024x768_S1024x128_0_256 _ _ (by omega) (by omega)
  case piece15 => exact mean_tile x w 0 2 slices_S1024x128_o0_0_S256x128 inb_S1024x768_S1024x128_0_256 _ _ (by omega) (by omega)
  case piece16 => exact mean_tile x w 3 1 slices_S1024x128_o768_0_S256x128 inb_S1024x768_S1024x128_0_128 _ _ (by omega) (by omega)
  case piece17 => exact mean_tile x w 2 1 slices_S1024x128_o512_0_S256x128 inb_S1024x768_S1024x128_0_128 _ _ (by omega) (by omega)
  case piece18 => exact mean_tile x w 1 1 slices_S1024x128_o256_0_S256x128 inb_S1024x768_S1024x128_0_128 _ _ (by omega) (by omega)
  case piece19 => exact mean_tile x w 0 1 slices_S1024x128_o0_0_S256x128 inb_S1024x768_S1024x128_0_128 _ _ (by omega) (by omega)
  case piece20 => exact mean_tile x w 3 0 slices_S1024x128_o768_0_S256x128 inb_S1024x768_S1024x128_0_0 _ _ (by omega) (by omega)
  case piece21 => exact mean_tile x w 2 0 slices_S1024x128_o512_0_S256x128 inb_S1024x768_S1024x128_0_0 _ _ (by omega) (by omega)
  case piece22 => exact mean_tile x w 1 0 slices_S1024x128_o256_0_S256x128 inb_S1024x768_S1024x128_0_0 _ _ (by omega) (by omega)
  case piece23 => exact mean_tile x w 0 0 slices_S1024x128_o0_0_S256x128 inb_S1024x768_S1024x128_0_0 _ _ (by omega) (by omega)

end Cert.Kernel6Ideal.PrepBlock

end
-- ==== Proof.PrepArray.lean ====
/-
  The preparation of the block-sparse attention's keys and values: the reference read at an index, and the three arrays
  the kernel leaves.
-/
module

public import proofs.«01_k».proof.Proof.PrepBlock
public import proofs.«01_k».proof.Proof.Gen.Reference6Ideal.Run
public import proofs.«01_k».proof.Proof.Gen.Reference6Ideal.Read

@[expose] public section

set_option maxRecDepth 16384

noncomputable section

namespace Cert.Reference6Ideal.PrepRef

open Cert.Reference6Ideal Cert.Reference6Ideal.Gen Cert.Reference6Ideal.Read Idealize.ShloMosaic Idealize.ShloMosaic.TcCoe Idealize.SL.Sem
open Cert.Kernel6Ideal.PrepBlock (normed)

/-- The keys of each head before the norm. -/
theorem raw_at (x : FVec Ideal S16384x8192 .bf16) (i : S2x6x8192x128.Idx) : val_main_v4 (F := Ideal) x i
    = x (ix2 ⟨(i 0).val * 8192 + (i 2).val, by have h0 : (i 0).val < 2 := (i 0).isLt; have h2 : (i 2).val < 8192 := (i 2).isLt; omega⟩
        ⟨3840 + ((i 1).val * 128 + (i 3).val), by have h1 : (i 1).val < 6 := (i 1).isLt; have h3 : (i 3).val < 128 := (i 3).isLt; omega⟩) := by
  pointwise [val_main_v4, val_main_v3, val_main_v2, val_main_v1, val_main_v0]

/-- The values of each head. -/
theorem val_at (x : FVec Ideal S16384x8192 .bf16) (i : S2x6x8192x128.Idx) : val_main_v7 (F := Ideal) x i
    = x (ix2 ⟨(i 0).val * 8192 + (i 2).val, by have h0 : (i 0).val < 2 := (i 0).isLt; have h2 : (i 2).val < 8192 := (i 2).isLt; omega⟩
        ⟨4608 + ((i 1).val * 128 + (i 3).val), by have h1 : (i 1).val < 6 := (i 1).isLt; have h3 : (i 3).val < 128 := (i 3).isLt; omega⟩) := by
  pointwise [val_main_v7, val_main_v6, val_main_v5, val_main_v1, val_main_v0]

/-- The normed keys, from the keys. -/
theorem norm_at (x : FVec Ideal S16384x8192 .bf16) (w : FVec Ideal S128 .f32) (i : S2x6x8192x128.Idx) : val_main_v20 (F := Ideal) x w i
    = normed (fun k => val_main_v4 (F := Ideal) x (ix4 (i 0) (i 1) (i 2) k)) (i 3) (w (ix1 (i 3))) := by
  unfold normed val_main_v20 val_main_v19 val_main_v18 val_main_v17 val_main_v16 val_main_v15 val_main_v14 val_main_v13 val_main_v12 val_main_v11 val_main_v10 val_main_v9 val_main_v8
  generalize val_main_v4 (F := Ideal) x = z
  pointwise [val_main_cst, val_main_cst_0, val_main_cst_1, constant]

/-- The first result: the normed keys, then the features. -/
theorem keys_at (x : FVec Ideal S16384x8192 .bf16) (w : FVec Ideal S128 .f32) (f : FVec Ideal S8192x128 .bf16) (y : S2x6x8192x256.Idx) :
    val_main_v28 (F := Ideal) x w f y
      = if h : (y 3).val < 128 then val_main_v20 (F := Ideal) x w (ix4 (y 0) (y 1) (y 2) ⟨(y 3).val, h⟩)
        else f (ix2 (y 2) ⟨(y 3).val - 128, by have : (y 3).val < 256 := (y 3).isLt; omega⟩) := by
  unfold val_main_v28 val_main_v27
  generalize val_main_v20 (F := Ideal) x w = z
  pointwise [val_main_v26, val_main_v25]

/-- The second result: the values, then ones. -/
theorem vals_at (x : FVec Ideal S16384x8192 .bf16) (y : S2x6x8192x256.Idx) :
    val_main_v31 (F := Ideal) x y
      = if h : (y 3).val < 128 then val_main_v7 (F := Ideal) x (ix4 (y 0) (y 1) (y 2) ⟨(y 3).val, h⟩) else 1 := by
  unfold val_main_v31 val_main_v30
  generalize val_main_v7 (F := Ideal) x = z
  pointwise [val_main_v29, val_main_cst_4, constant]

/-- The third result: the normed keys' means over the blocks. -/
theorem means_at (x : FVec Ideal S16384x8192 .bf16) (w : FVec Ideal S128 .f32) (y : S2x32x1x768.Idx) :
    val_main_v33 (F := Ideal) x w y
      = Ideal.div (∑ r : Fin 256, val_main_v20 (F := Ideal) x w (ix4 (y 0) ⟨(y 3).val / 128, by have : (y 3).val < 768 := (y 3).isLt; omega⟩
          ⟨(y 1).val * 256 + r.val, by have : (y 1).val < 32 := (y 1).isLt; omega⟩ ⟨(y 3).val % 128, by omega⟩)) (Ideal.ofBits .f32 0x43800000#32) := by
  unfold val_main_v33 val_main_v32 val_main_v24 val_main_v23 val_main_v22 val_main_v21
  generalize val_main_v20 (F := Ideal) x w = z
  pointwise [val_main_cst_2, val_main_cst_3, constant]

end Cert.Reference6Ideal.PrepRef

namespace Cert.Kernel6Ideal.PrepArray

open Cert.Kernel6Ideal Cert.Kernel6Ideal.Gen Cert.Kernel6Ideal.PrepBlock Idealize.ShloMosaic Idealize.ShloMosaic.TcCoe Idealize.SL.Sem

variable (m : (ℓ : Loc nD τ sig) → Buf (Elt Ideal) ℓ)

/-- Where each window's block lies at grid point `t`: sequence `t / 8`, its row block `t % 8`. -/
theorem idx : ∀ t : Fin cfg0.N, win0_0.index t = ![t.val, 5] ∧ win0_1.index t = ![t.val, 6] ∧ win0_2.index t = ![0, 0]
    ∧ win0_3.index t = ![t.val % 8, 0] ∧ win0_4.index t = ![t.val / 8, 0, t.val % 8, 0] ∧ win0_5.index t = ![t.val / 8, 0, t.val % 8, 0]
    ∧ win0_6.index t = ![t.val / 8, t.val % 8, 0, 0] ∧ t.val < 16 :=
  (by decide +kernel : ∀ t : Fin grid0.N, _)

theorem keys_x (c : Dev nD) (t : Fin cfg0.N) (i : S1024x768.Idx) (j : S16384x8192.Idx) (h0 : (j 0).val = t.val * 1024 + (i 0).val)
    (h1 : (j 1).val = 3840 + (i 1).val) : X0_0 m c t i = m ((c : Thread nD τ).loc main_arg0) j := by
  unfold X0_0 Pipeline.Window.fill
  rw [dif_pos (moved0_0 t i)]
  refine Eq.trans (congrArg (V m c main_arg0) (funext fun a => Fin.ext ?_)) (congrFun (V_main_arg0 m c) j)
  match a with
  | ⟨0, _⟩ => blk_simp; rw [(idx t).1]; exact h0.symm
  | ⟨1, _⟩ => blk_simp; rw [(idx t).1]; exact h1.symm

theorem vals_x (c : Dev nD) (t : Fin cfg0.N) (i : S1024x768.Idx) (j : S16384x8192.Idx) (h0 : (j 0).val = t.val * 1024 + (i 0).val)
    (h1 : (j 1).val = 4608 + (i 1).val) : X0_1 m c t i = m ((c : Thread nD τ).loc main_arg0) j := by
  unfold X0_1 Pipeline.Window.fill
  rw [dif_pos (moved0_1 t i)]
  refine Eq.trans (congrArg (V m c main_arg0) (funext fun a => Fin.ext ?_)) (congrFun (V_main_arg0 m c) j)
  match a with
  | ⟨0, _⟩ => blk_simp; rw [(idx t).2.1]; exact h0.symm
  | ⟨1, _⟩ => blk_simp; rw [(idx t).2.1]; exact h1.symm

theorem row_at (W : FVec Ideal S128 .f32) (i : S1x128.Idx) : shapeCast S1x128 W shapeCasts_S128_S1x128 i = W (ix1 (i 1)) := by
  pointwise

theorem w_at (c : Dev nD) (t : Fin cfg0.N) (i : S1x128.Idx) : iblk m c 2 t i = m ((c : Thread nD τ).loc main_arg1) (ix1 (i 1)) := by
  have h : V m c main_v0 = shapeCast S1x128 (m ((c : Thread nD τ).loc main_arg1) : FVec Ideal S128 .f32) shapeCasts_S128_S1x128 := by
    unfold V hostOps0
    after_results
    rfl
  refine Eq.trans (congrArg (V m c main_v0) (funext fun a => Fin.ext ?_)) ((congrFun h i).trans (row_at _ i))
  match a with
  | ⟨0, _⟩ => blk_simp; rw [(idx t).2.2.1]; rfl
  | ⟨1, _⟩ => blk_simp; rw [(idx t).2.2.1]; exact Nat.zero_add _

theorem f_at (c : Dev nD) (t : Fin cfg0.N) (i : S1024x128.Idx) (j : S8192x128.Idx) (h0 : (j 0).val = t.val % 8 * 1024 + (i 0).val)
    (h1 : (j 1).val = (i 1).val) : iblk m c 3 t i = m ((c : Thread nD τ).loc main_arg2) j := by
  refine Eq.trans (congrArg (V m c main_arg2) (funext fun a => Fin.ext ?_)) (congrFun (V_main_arg2 m c) j)
  match a with
  | ⟨0, _⟩ => blk_simp; rw [(idx t).2.2.2.1]; exact h0.symm
  | ⟨1, _⟩ => blk_simp; rw [(idx t).2.2.2.1]; refine Eq.trans ?_ h1.symm; show 0 * 128 + (i 1).val = _; omega

/-- A normed key of grid point `t`'s rows is the reference's. -/
theorem key_eq (c : Dev nD) (t : Fin cfg0.N) (p : Fin 1024) (h : Fin 6) (q : Fin 128) (j : Cert.Reference6Ideal.S2x6x8192x128.Idx) (n : Fin 128 → Fin 768)
    (hn : ∀ k, (n k).val = h.val * 128 + k.val) (h0 : (j 0).val = t.val / 8) (h1 : (j 1).val = h.val)
    (h2 : (j 2).val = t.val % 8 * 1024 + p.val) (h3 : q = j 3) :
    normed (fun k => X0_0 m c t (ix2 p (n k))) q (iblk m c 2 t (ix2 0 q))
      = Cert.Reference6Ideal.Read.val_main_v20 (F := Ideal) (m ((c : Thread nD τ).loc main_arg0)) (m ((c : Thread nD τ).loc main_arg1)) j := by
  refine Eq.trans ?_ (Cert.Reference6Ideal.PrepRef.norm_at _ _ _).symm
  subst h3
  refine congrArg₂ (fun r w => normed r (j 3) w) (funext fun k => ?_) (w_at m c t _)
  refine Eq.trans ?_ (Cert.Reference6Ideal.PrepRef.raw_at _ _).symm
  refine keys_x m c t _ _ ?_ ?_
  · show (j 0).val * 8192 + (j 2).val = t.val * 1024 + p.val
    omega
  · show 3840 + ((j 1).val * 128 + k.val) = 3840 + (n k).val
    rw [hn, h1]

/-- Where an entry of the first or second output block lies in its array. -/
theorem emb4 (t : Fin cfg0.N) (y : S1x6x1024x256.Idx) (j : S2x6x8192x256.Idx) (hj : ((cfg0.win 4).blk t).view.emb y = j) :
    (j 0).val = t.val / 8 ∧ (j 1).val = (y 1).val ∧ (j 2).val = t.val % 8 * 1024 + (y 2).val ∧ (j 3).val = (y 3).val := by
  subst hj
  refine ⟨?_, ?_, ?_, ?_⟩
  · blk_simp; rw [(idx t).2.2.2.2.1]; rfl
  · blk_simp; rw [(idx t).2.2.2.2.1]; show 0 * 6 + (y 1).val = _; omega
  · blk_simp; rw [(idx t).2.2.2.2.1]; rfl
  · blk_simp; rw [(idx t).2.2.2.2.1]; show 0 * 256 + (y 3).val = _; omega

theorem emb5 (t : Fin cfg0.N) (y : S1x6x1024x256.Idx) (j : S2x6x8192x256.Idx) (hj : ((cfg0.win 5).blk t).view.emb y = j) :
    (j 0).val = t.val / 8 ∧ (j 1).val = (y 1).val ∧ (j 2).val = t.val % 8 * 1024 + (y 2).val ∧ (j 3).val = (y 3).val := by
  subst hj
  refine ⟨?_, ?_, ?_, ?_⟩
  · blk_simp; rw [(idx t).2.2.2.2.2.1]; rfl
  · blk_simp; rw [(idx t).2.2.2.2.2.1]; show 0 * 6 + (y 1).val = _; omega
  · blk_simp; rw [(idx t).2.2.2.2.2.1]; rfl
  · blk_simp; rw [(idx t).2.2.2.2.2.1]; show 0 * 256 + (y 3).val = _; omega

/-- Where an entry of the third output block lies in its array. -/
theorem emb6 (t : Fin cfg0.N) (y : S1x4x1x768.Idx) (j : S2x32x1x768.Idx) (hj : ((cfg0.win 6).blk t).view.emb y = j) :
    (j 0).val = t.val / 8 ∧ (j 1).val = t.val % 8 * 4 + (y 1).val ∧ (j 3).val = (y 3).val := by
  subst hj
  refine ⟨?_, ?_, ?_⟩
  · blk_simp; rw [(idx t).2.2.2.2.2.2.1]; rfl
  · blk_simp; rw [(idx t).2.2.2.2.2.2.1]; rfl
  · blk_simp; rw [(idx t).2.2.2.2.2.2.1]; show 0 * 768 + (y 3).val = _; omega

/-- The keys' array is the reference's first result. -/
theorem final_keys (c : Dev nD) : (dats m 0 c).arrAt 4 cfg0.N
    = Cert.Reference6Ideal.Read.val_main_v28 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  generalize hj : ((cfg0.win 4).blk t).view.emb y = j
  obtain ⟨h0, h1, h2, h3⟩ := emb4 t y j hj
  blk_simp
  rw [after0_4]
  refine (keys_at m c t y).trans (Eq.trans ?_ (Cert.Reference6Ideal.PrepRef.keys_at _ _ _ j).symm)
  unfold keyed
  by_cases h : (y 3).val < 128
  · rw [dif_pos h, dif_pos (by omega)]
    exact key_eq m c t (y 2) (y 1) ⟨(y 3).val, h⟩ (ix4 (j 0) (j 1) (j 2) ⟨(j 3).val, by omega⟩) _ (fun k => rfl) h0 h1 h2 (Fin.ext h3.symm)
  · rw [dif_neg h, dif_neg (by omega)]
    refine f_at m c t _ _ h2 ?_
    show (j 3).val - 128 = (y 3).val - 128
    omega

/-- The values' array is the reference's second result. -/
theorem final_vals (c : Dev nD) : (dats m 0 c).arrAt 5 cfg0.N
    = Cert.Reference6Ideal.Read.val_main_v31 (F := Ideal) (m ((c : Thread nD τ).loc main_arg0)) := by
  refine (dats m 0 c).arrAt_eq_of_covers 5 _ (by decide +kernel) fun t _ y => ?_
  generalize hj : ((cfg0.win 5).blk t).view.emb y = j
  obtain ⟨h0, h1, h2, h3⟩ := emb5 t y j hj
  blk_simp
  rw [after0_5]
  refine (vals_at m c t y).trans (Eq.trans ?_ (Cert.Reference6Ideal.PrepRef.vals_at _ j).symm)
  unfold valued
  by_cases h : (y 3).val < 128
  · rw [dif_pos h, dif_pos (by omega)]
    refine Eq.trans ?_ (Cert.Reference6Ideal.PrepRef.val_at _ _).symm
    refine vals_x m c t _ _ ?_ ?_
    · show (j 0).val * 8192 + (j 2).val = t.val * 1024 + (y 2).val
      omega
    · show 4608 + ((j 1).val * 128 + (j 3).val) = 4608 + ((y 1).val * 128 + (y 3).val)
      omega
  · rw [dif_neg h, dif_neg (by omega)]

/-- The means' array is the reference's third result. -/
theorem final_means (c : Dev nD) : (dats m 0 c).arrAt 6 cfg0.N
    = Cert.Reference6Ideal.Read.val_main_v33 (F := Ideal) (m ((c : Thread nD τ).loc main_arg0)) (m ((c : Thread nD τ).loc main_arg1)) := by
  refine (dats m 0 c).arrAt_eq_of_covers 6 _ (by decide +kernel) fun t _ y => ?_
  generalize hj : ((cfg0.win 6).blk t).view.emb y = j
  obtain ⟨h0, h1, h3⟩ := emb6 t y j hj
  have y1 : (y 1).val < 4 := (y 1).isLt
  have y3 : (y 3).val < 768 := (y 3).isLt
  have ht : t.val < 16 := (idx t).2.2.2.2.2.2.2
  blk_simp
  rw [after0_6]
  refine (means_at m c t y).trans (Eq.trans ?_ (Cert.Reference6Ideal.PrepRef.means_at _ _ j).symm)
  unfold meaned
  refine congrArg (fun s => Ideal.div s _) (Finset.sum_congr rfl fun r _ => ?_)
  refine key_eq m c t ⟨(y 1).val * 256 + r.val, by omega⟩ ⟨(y 3).val / 128, by omega⟩ ⟨(y 3).val % 128, by omega⟩
    (ix4 (j 0) ⟨(j 3).val / 128, by omega⟩ ⟨(j 1).val * 256 + r.val, by omega⟩ ⟨(j 3).val % 128, by omega⟩) _ (fun k => rfl) h0 ?_ ?_ (Fin.ext ?_)
  · show (j 3).val / 128 = (y 3).val / 128
    rw [h3]
  · show (j 1).val * 256 + r.val = t.val % 8 * 1024 + ((y 1).val * 256 + r.val)
    omega
  · show (y 3).val % 128 = (j 3).val % 128
    rw [h3]

end Cert.Kernel6Ideal.PrepArray

end
-- ==== Proof.Projections.lean ====
/-
  The claims of the projections, of the norm and of the keys' preparation: the frames of the kernels and of the references, and that each
  kernel's idealized run ends with the reference's arrays.
-/
module

public import proofs.«01_k».proof.Defs
public import proofs.«01_k».proof.Proof.InArray
public import proofs.«01_k».proof.Proof.OutArray
public import proofs.«01_k».proof.Proof.BothArray
public import proofs.«01_k».proof.Proof.PrepArray
public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel6

@[expose] public section

set_option maxRecDepth 16384

noncomputable section

namespace Cert.Projections

open Idealize.ShloMosaic Idealize.ShloMosaic.TcCoe Idealize.SL.Sem

/-! ## The input projection -/

/-- The printed program and its idealization have one text: the run is proved once, for any float values, and read here
    at words. -/
theorem bodies_in : Cert.Kernel2.defs (F := Bits) = Cert.Kernel2Ideal.defs (F := Bits) := by
  refine congrArg (Pipeline.defs Cert.Kernel2Ideal.pcfgs) ?_
  unfold Cert.Kernel2.defs₀ Cert.Kernel2Ideal.defs₀
  congr 1
  funext l p
  match l, p with
  | 0, (t, s) => rfl

theorem frame_in : Cert.quiescent_Kernel2 := fun m ρ _ => by
  rw [bodies_in]
  exact Cert.Kernel2Ideal.InFrame.frame (F := Bits) m ρ

theorem frame_in_ideal : Cert.quiescent_Kernel2Ideal := fun m ρ _ => Cert.Kernel2Ideal.InFrame.frame (F := Ideal) m ρ

theorem frame_in_ref : Cert.quiescent_Reference2Ideal := fun m ρ _ =>
  (θ_run Cert.Reference2Ideal.defs _ _).mono (fun r h => ⟨fun c => ⟨(h c).2.2.1, (h c).2.2.2⟩, sem_eq_zero_of_no_sems (by decide) r.2⟩)
    (Cert.Reference2Ideal.Value.run (F := Ideal) m ρ)

section
open Cert.Kernel2Ideal Cert.Kernel2Ideal.Gen Cert.Kernel2Ideal.InFrame

theorem run_in (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = Cert.Reference2Ideal.Read.val_main_v8 (F := Ideal) (m ((c.tc : Thread nD τ).loc main_arg0)) (m ((c.tc : Thread nD τ).loc main_arg1))
      ∧ r.2.mem ((c.tc : Thread nD τ).loc main_v3_1) = Cert.Reference2Ideal.Read.val_main_v9 (F := Ideal) (m ((c.tc : Thread nD τ).loc main_arg0)) (m ((c.tc : Thread nD τ).loc main_arg1)) :=
  (θ_run defs _ _).mono (fun r h c => ⟨((h.1 c).1 4).trans (InArray.final m c), ((h.1 c).1 5).trans (InArray.final_narrow m c)⟩)
    (run_main (F := Ideal) m ρ)

end

theorem algebraic_in : Cert.algebraic_Kernel2Ideal_Reference2Ideal := fun m ρ m' ρ' _ hag =>
  ⟨_, _, (θ_run _ _ _).mono (fun _ h c => ⟨(h.1 c).1, (h.1 c).2, h.2.1 c⟩)
      (θ_run_and (run_in m ρ) (Cert.Kernel2Ideal.InFrame.frame (F := Ideal) m ρ)),
    (θ_run _ _ _).mono (fun _ h c => ⟨(h c).1.trans (by rw [(hag c).1, (hag c).2]; rfl),
      (h c).2.1.trans (by rw [(hag c).1, (hag c).2]; rfl), (h c).2.2⟩)
      (Cert.Reference2Ideal.Value.run (F := Ideal) m' ρ')⟩

/-! ## The output projection -/

theorem bodies_out : Cert.Kernel3.defs (F := Bits) = Cert.Kernel3Ideal.defs (F := Bits) := by
  refine congrArg (Pipeline.defs Cert.Kernel3Ideal.pcfgs) ?_
  unfold Cert.Kernel3.defs₀ Cert.Kernel3Ideal.defs₀
  congr 1
  funext l p
  match l, p with
  | 0, (t, s) => rfl

theorem frame_out : Cert.quiescent_Kernel3 := fun m ρ _ => by
  rw [bodies_out]
  exact Cert.Kernel3Ideal.Gen.frame (F := Bits) m ρ

theorem frame_out_ideal : Cert.quiescent_Kernel3Ideal := fun m ρ _ => Cert.Kernel3Ideal.Gen.frame (F := Ideal) m ρ

theorem frame_out_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_out : Cert.algebraic_Kernel3Ideal_Reference3Ideal := fun m ρ m' ρ' _ hag =>
  ⟨_, (θ_run _ _ _).mono (fun _ h c => ⟨(h c).1.trans (Cert.Kernel3Ideal.OutArray.final m c), (h c).2⟩)
      (Cert.Kernel3Ideal.Value.run_blocks (F := Ideal) m ρ),
    (θ_run _ _ _).mono (fun _ h c => ⟨(h c).1.trans
        (by rw [(hag c).1, (hag c).2.1, (hag c).2.2.1, (hag c).2.2.2.1, (hag c).2.2.2.2]; rfl), (h c).2⟩)
      (Cert.Reference3Ideal.Value.run (F := Ideal) m' ρ')⟩

/-! ## The norm -/

theorem bodies_norm : Cert.Kernel4.defs (F := Bits) = Cert.Kernel4Ideal.defs (F := Bits) := by
  refine congrArg (Pipeline.defs Cert.Kernel4Ideal.pcfgs) ?_
  unfold Cert.Kernel4.defs₀ Cert.Kernel4Ideal.defs₀
  congr 1
  funext l p
  match l, p with
  | 0, (t, s) => rfl

theorem frame_norm : Cert.quiescent_Kernel4 := fun m ρ _ => by
  rw [bodies_norm]
  exact Cert.Kernel4Ideal.Gen.frame (F := Bits) m ρ

theorem frame_norm_ideal : Cert.quiescent_Kernel4Ideal := fun m ρ _ => Cert.Kernel4Ideal.Gen.frame (F := Ideal) m ρ

theorem frame_norm_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_norm : Cert.algebraic_Kernel4Ideal_Reference4Ideal := fun m ρ m' ρ' _ hag =>
  ⟨_, (θ_run _ _ _).mono (fun _ h c => ⟨(h c).1.trans (Cert.Kernel4Ideal.NormBlock.final m c), (h c).2⟩)
      (Cert.Kernel4Ideal.Value.run_blocks (F := Ideal) m ρ),
    (θ_run _ _ _).mono (fun _ h c => ⟨(h c).1.trans (by rw [(hag c).1, (hag c).2]; rfl), (h c).2⟩)
      (Cert.Reference4Ideal.Value.run (F := Ideal) m' ρ')⟩

/-! ## The output projection with the next layer's norm -/

theorem bodies_both : Cert.Kernel5.defs (F := Bits) = Cert.Kernel5Ideal.defs (F := Bits) := by
  refine congrArg (Pipeline.defs Cert.Kernel5Ideal.pcfgs) ?_
  unfold Cert.Kernel5.defs₀ Cert.Kernel5Ideal.defs₀
  congr 1
  funext l p
  match l, p with
  | 0, (t, s) => rfl

theorem frame_both : Cert.quiescent_Kernel5 := fun m ρ _ => by
  rw [bodies_both]
  exact Cert.Kernel5Ideal.Gen.frame (F := Bits) m ρ

theorem frame_both_ideal : Cert.quiescent_Kernel5Ideal := fun m ρ _ => Cert.Kernel5Ideal.Gen.frame (F := Ideal) m ρ

theorem frame_both_ref : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic_both : Cert.algebraic_Kernel5Ideal_Reference5Ideal := fun m ρ m' ρ' _ hag =>
  ⟨_, _, (θ_run _ _ _).mono (fun _ h c => ⟨(h c).1.trans (Cert.Kernel5Ideal.BothArray.final m c),
        (h c).2.1.trans (Cert.Kernel5Ideal.BothArray.final_norm m c), (h c).2.2⟩)
      (Cert.Kernel5Ideal.Value.run_blocks (F := Ideal) m ρ),
    (θ_run _ _ _).mono (fun _ h c => ⟨(h c).1.trans
        (by rw [(hag c).1, (hag c).2.1, (hag c).2.2.1, (hag c).2.2.2.1, (hag c).2.2.2.2.1]; rfl),
      (h c).2.1.trans
        (by rw [(hag c).1, (hag c).2.1, (hag c).2.2.1, (hag c).2.2.2.1, (hag c).2.2.2.2.1, (hag c).2.2.2.2.2]; rfl), (h c).2.2⟩)
      (Cert.Reference5Ideal.Value.run (F := Ideal) m' ρ')⟩

/-! ## The keys' preparation -/

theorem bodies_prep : Cert.Kernel6.defs (F := Bits) = Cert.Kernel6Ideal.defs (F := Bits) := by
  refine congrArg (Pipeline.defs Cert.Kernel6Ideal.pcfgs) ?_
  unfold Cert.Kernel6.defs₀ Cert.Kernel6Ideal.defs₀
  congr 1
  funext l p
  match l, p with
  | 0, (t, s) => rfl

theorem frame_prep : Cert.quiescent_Kernel6 := fun m ρ _ => by
  rw [bodies_prep]
  exact Cert.Kernel6Ideal.Gen.frame (F := Bits) m ρ

theorem frame_prep_ideal : Cert.quiescent_Kernel6Ideal := fun m ρ _ => Cert.Kernel6Ideal.Gen.frame (F := Ideal) m ρ

theorem frame_prep_ref : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

open Cert.Kernel6Ideal.PrepArray in
theorem algebraic_prep : Cert.algebraic_Kernel6Ideal_Reference6Ideal := fun m ρ m' ρ' _ hag =>
  ⟨_, _, _,
    (θ_run _ _ _).mono
      (fun _ h c => ⟨(h c).1.trans (final_keys m c), (h c).2.1.trans (final_vals m c), (h c).2.2.1.trans (final_means m c), (h c).2.2.2⟩)
      (Cert.Kernel6Ideal.Value.run_blocks (F := Ideal) m ρ),
    (θ_run _ _ _).mono
      (fun _ h c => ⟨(h c).1.trans (by rw [(hag c).1, (hag c).2.1, (hag c).2.2]; rfl), (h c).2.1.trans (by rw [(hag c).1]; rfl),
        (h c).2.2.1.trans (by rw [(hag c).1, (hag c).2.1]; rfl), (h c).2.2.2⟩)
      (Cert.Reference6Ideal.Value.run (F := Ideal) m' ρ')⟩

end Cert.Projections

end
-- ==== Proof.RetMath.lean ====
/-
  The mathematics of retention over the real numbers, free of any program: the state after `T` rows, the output row,
  and how both are computed chunk by chunk, for any chunk length. The kernel uses it at length 256, the reference at 128.
-/
module

public import Idealize.ShloMosaic.Lib.Pipeline.ValueKit

@[expose] public section

noncomputable section

namespace Cert.RetMath

open Idealize.ShloMosaic

/-- The state a head carries after its first `T` rows: every earlier row's outer product `k v`, decayed. -/
def st (γ : ℝ) (k v : ℕ → ℕ → ℝ) (T d e : ℕ) : ℝ := ∑ s ∈ Finset.range T, γ ^ (T - 1 - s) * (k s d * v s e)

/-- Row `t` of a head's output: the decayed scores against the values of all rows up to `t`. -/
def out (γ : ℝ) (q k v : ℕ → ℕ → ℝ) (t e : ℕ) : ℝ :=
  ∑ s ∈ Finset.range (t + 1), γ ^ (t - s) * (∑ d : Fin 128, q t d * k s d) * v s e

theorem st_zero (γ : ℝ) (k v : ℕ → ℕ → ℝ) (d e : ℕ) : st γ k v 0 d e = 0 := by simp [st]

/-- A chunk of `c` rows added to the state. -/
theorem st_add (γ : ℝ) (k v : ℕ → ℕ → ℝ) (T c d e : ℕ) :
    st γ k v (T + c) d e = st γ k v T d e * γ ^ c + ∑ r : Fin c, k (T + r) d * γ ^ (c - 1 - r.val) * v (T + r) e := by
  unfold st
  rw [Finset.sum_range_add, Finset.sum_mul]
  congr 1
  · refine Finset.sum_congr rfl fun s hs => ?_
    have := Finset.mem_range.mp hs
    rw [show T + c - 1 - s = (T - 1 - s) + c by omega, pow_add]; ring
  · rw [Finset.sum_range]
    refine Finset.sum_congr rfl fun r _ => ?_
    rw [show T + c - 1 - (T + r.val) = c - 1 - r.val by omega]; ring

/-- The scores inside a chunk and the state before it give the output row, scaled by `a`. -/
theorem out_split (γ a : ℝ) (q k v : ℕ → ℕ → ℝ) (T c i e : ℕ) (hi : i < c) :
    (∑ j : Fin c, (∑ d : Fin 128, q (T + i) d * k (T + j) d) * ((if j.val ≤ i then γ ^ (i - j.val) else 0) * a) * v (T + j) e)
      + ∑ d : Fin 128, q (T + i) d * (γ ^ (i + 1) * a) * st γ k v T d e = a * out γ q k v (T + i) e := by
  unfold out st
  rw [show T + i + 1 = T + (i + 1) by omega, Finset.sum_range_add, mul_add, add_comm]
  congr 1
  · simp only [Finset.mul_sum, Finset.sum_mul]
    rw [Finset.sum_comm]
    refine Finset.sum_congr rfl fun s hs => Finset.sum_congr rfl fun d _ => ?_
    have := Finset.mem_range.mp hs
    rw [show T + i - s = (i + 1) + (T - 1 - s) by omega, pow_add]; ring
  · rw [Fin.sum_univ_eq_sum_range (fun j => (∑ d : Fin 128, q (T + i) d * k (T + j) d) * ((if j ≤ i then γ ^ (i - j) else 0) * a) * v (T + j) e) c,
      Finset.mul_sum]
    obtain ⟨n, rfl⟩ : ∃ n, c = i + 1 + n := ⟨c - (i + 1), by omega⟩
    rw [Finset.sum_range_add]
    have hz : ∀ x ∈ Finset.range n, (∑ d : Fin 128, q (T + i) d * k (T + (i + 1 + x)) d) * ((if i + 1 + x ≤ i then γ ^ (i - (i + 1 + x)) else 0) * a) * v (T + (i + 1 + x)) e = 0 := by
      intro x _
      rw [if_neg (by omega)]; ring
    rw [Finset.sum_eq_zero hz, add_zero]
    refine Finset.sum_congr rfl fun j hj => ?_
    have := Finset.mem_range.mp hj
    rw [if_pos (by omega), show T + i - (T + j) = i - j by omega]; ring

/-- A scale on the keys is a scale on the output. -/
theorem out_scaled (γ a : ℝ) (q k v : ℕ → ℕ → ℝ) (t e : ℕ) :
    out γ q (fun s d => k s d * a) v t e = a * out γ q k v t e := by
  unfold out
  simp only [Finset.mul_sum, Finset.sum_mul]
  refine Finset.sum_congr rfl fun s _ => Finset.sum_congr rfl fun d _ => ?_
  ring

/-- A finite sum of real values, read as extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The state's step on extended reals that hold real values. -/
theorem st_step {γ : ℝ} {k v : ℕ → ℕ → ℝ} {T c d e : ℕ} {K W V : Fin c → EReal} {S D : EReal}
    (hS : S = (st γ k v T d e : ℝ)) (hD : D = (γ ^ c : ℝ)) (hK : ∀ r, K r = (k (T + r) d : ℝ))
    (hW : ∀ r : Fin c, W r = (γ ^ (c - 1 - r.val) : ℝ)) (hV : ∀ r, V r = (v (T + r) e : ℝ)) :
    S * D + ∑ r, K r * W r * V r = (st γ k v (T + c) d e : ℝ) := by
  simp only [hS, hD, hK, hW, hV, ← EReal.coe_mul, ← coe_sum, ← EReal.coe_add, st_add]

/-- The output row on extended reals that hold real values. -/
theorem out_step {γ a : ℝ} {q k v : ℕ → ℕ → ℝ} {T c i e : ℕ} (hi : i < c) {Q W S : Fin 128 → EReal}
    {K : Fin c → Fin 128 → EReal} {M V : Fin c → EReal}
    (hQ : ∀ d, Q d = (q (T + i) d : ℝ)) (hK : ∀ j d, K j d = (k (T + j) d : ℝ)) (hV : ∀ j, V j = (v (T + j) e : ℝ))
    (hM : ∀ j : Fin c, M j = ((if j.val ≤ i then γ ^ (i - j.val) else 0) * a : ℝ)) (hW : ∀ d, W d = (γ ^ (i + 1) * a : ℝ))
    (hS : ∀ d : Fin 128, S d = (st γ k v T d e : ℝ)) :
    (∑ j, (∑ d, Q d * K j d) * M j * V j) + ∑ d, Q d * W d * S d = (a * out γ q k v (T + i) e : ℝ) := by
  simp only [hQ, hK, hV, hM, hW, hS, ← EReal.coe_mul, ← coe_sum, ← EReal.coe_add, out_split γ a q k v T c i e hi]

/-- One entry of the stored output from a row of the retention's: normed over the head, weighted and gated. -/
def gated (o : Fin 128 → EReal) (w g : EReal) (e : Fin 128) : EReal :=
  o e * Ideal.rsqrt (Ideal.div (∑ x, o x * o x) (Ideal.ofBits .f32 1124073472#32) + Ideal.ofBits .f32 897988541#32) * w
    * (g * Ideal.div 1 (1 + Ideal.exp (0 - g)))

/-- The head of column `j`, and the column inside it. -/
def hd (j : Fin 512) : Fin 4 := ⟨j.val / 128, by omega⟩
def cl (j : Fin 512) : Fin 128 := ⟨j.val % 128, Nat.mod_lt _ (by norm_num)⟩

/-- The columns of head `h`. -/
def col (f : ℕ → ℕ → ℝ) (h : ℕ) : ℕ → ℕ → ℝ := fun t d => f t (128 * h + d)

/-- One entry of the result from the real matrices, the norm's weights and the gate. -/
def entry (γ : ℕ → ℝ) (a : ℝ) (q k v : ℕ → ℕ → ℝ) (N : (⟨2, ![4, 128]⟩ : Shape).Idx → EReal) (g : EReal) (t : ℕ) (h : Fin 4) (e : Fin 128) : EReal :=
  gated (fun x => ((a * out (γ h.val) (col q h.val) (col k h.val) (col v h.val) t x.val : ℝ) : EReal)) (N (ix2 h e)) g e

end Cert.RetMath
-- ==== Proof.RetUnit.lean ====
/-
  One unit of the retention body: one head's 256 rows. The vector operations the body performs for a unit, written once,
  and what each leaves at an index.
-/
module

public import proofs.«01_k».proof.Proof.Gen.KernelIdeal.Value
public import proofs.«01_k».proof.Proof.RetMath
public import Idealize.ShloMosaic.Lib.Pipeline.ValueKit
public import Idealize.ShloMosaic.Lib.Pointwise

@[expose] public section

set_option maxRecDepth 16384

noncomputable section

namespace Cert.KernelIdeal.RetUnit

open Cert.KernelIdeal Cert.KernelIdeal.Gen Idealize.ShloMosaic Idealize.ShloMosaic.TcCoe Idealize.SL.Sem

/-- Rows of a head weighted by a table. -/
def weighted (a : FVec Ideal S256x128 .bf16) (t : FVec Ideal S1x256x128 .f32) : FVec Ideal S256x128 .bf16 :=
  truncf .bf16 (mulf (extf .f32 a bitsLt_bf16_f32) (shapeCast S256x128 t shapeCasts_S1x256x128_S256x128)) bitsLt_bf16_f32

/-- The state after the unit: decayed, plus the weighted keys against the values. -/
def stU (S : FVec Ideal S128x128 .f32) (dec : Ideal .f32) (k v : FVec Ideal S256x128 .bf16) (kws : FVec Ideal S1x256x128 .f32) :
    FVec Ideal S128x128 .f32 :=
  addf (mulf S (broadcast S128x128 dec))
    (matmul dot_S256x128_S256x128_S128x128_0_0_1_1_n_n none (weighted k kws) v (constant S128x128 .f32 0x00000000#32))

/-- The unit's output before the norm: the decayed scores against the values, plus the weighted queries against the
    state before the unit. -/
def oU (q k v : FVec Ideal S256x128 .bf16) (dm : FVec Ideal S1x256x256 .f32) (qws : FVec Ideal S1x256x128 .f32)
    (S : FVec Ideal S128x128 .f32) : FVec Ideal S256x128 .f32 :=
  addf
    (matmul dot_S256x256_S256x128_S256x128_1_0_0_1_n_n none
      (truncf .bf16 (mulf (matmul dot_S256x128_S256x128_S256x256_1_1_0_0_n_n none q k (constant S256x256 .f32 0x00000000#32))
        (shapeCast S256x256 dm shapeCasts_S1x256x256_S256x256)) bitsLt_bf16_f32) v (constant S256x128 .f32 0x00000000#32))
    (matmul dot_S256x128_S128x128_S256x128_1_0_0_1_n_n none (weighted q qws) (truncf .bf16 S bitsLt_bf16_f32)
      (constant S256x128 .f32 0x00000000#32))

/-- The unit's stored output: the norm over the head, the weight and the gate. -/
def yU (o : FVec Ideal S256x128 .f32) (nw : FVec Ideal S1x128 .f32) (g : FVec Ideal S256x128 .bf16) : FVec Ideal S256x128 .bf16 :=
  k0_pay1 (F := Ideal) o (k0_pay152 (F := Ideal) o) nw g

theorem stU_at (S : FVec Ideal S128x128 .f32) (dec : Ideal .f32) (k v : FVec Ideal S256x128 .bf16) (kws : FVec Ideal S1x256x128 .f32)
    (i : S128x128.Idx) :
    stU S dec k v kws i = S i * dec + ∑ r : Fin 256, k (ix2 r (i 0)) * kws (ix3 0 r (i 0)) * v (ix2 r (i 1)) := by
  pointwise [stU, weighted, constant]

theorem oU_at (q k v : FVec Ideal S256x128 .bf16) (dm : FVec Ideal S1x256x256 .f32) (qws : FVec Ideal S1x256x128 .f32)
    (S : FVec Ideal S128x128 .f32) (i : S256x128.Idx) :
    oU q k v dm qws S i
      = (∑ j : Fin 256, (∑ d : Fin 128, q (ix2 (i 0) d) * k (ix2 j d)) * dm (ix3 0 (i 0) j) * v (ix2 j (i 1)))
        + ∑ d : Fin 128, q (ix2 (i 0) d) * qws (ix3 0 (i 0) d) * S (ix2 d (i 1)) := by
  pointwise [oU, weighted, constant]

theorem yU_at (o : FVec Ideal S256x128 .f32) (nw : FVec Ideal S1x128 .f32) (g : FVec Ideal S256x128 .bf16) (i : S256x128.Idx) :
    yU o nw g i = RetMath.gated (fun e => o (ix2 (i 0) e)) (nw (ix2 0 (i 1))) (g i) (i 1) := by
  pointwise [yU, k0_pay1, k0_pay152, constant, RetMath.gated]

/-- The rows of `A` are rows `T …` of the real matrix `f`. -/
def Rows (A : FVec Ideal S256x128 .bf16) (f : ℕ → ℕ → ℝ) (T : ℕ) : Prop :=
  ∀ (r : Fin 256) (d : Fin 128), A (ix2 r d) = (f (T + r.val) d.val : ℝ)

/-- `S` is the state after `T` rows. -/
def IsSt (S : FVec Ideal S128x128 .f32) (γ : ℝ) (k v : ℕ → ℕ → ℝ) (T : ℕ) : Prop :=
  ∀ d e : Fin 128, S (ix2 d e) = (RetMath.st γ k v T d.val e.val : ℝ)

theorem isSt_step {γ : ℝ} {k v : ℕ → ℕ → ℝ} {T : ℕ} {S : FVec Ideal S128x128 .f32} {dec : Ideal .f32}
    {K V : FVec Ideal S256x128 .bf16} {W : FVec Ideal S1x256x128 .f32} (hS : IsSt S γ k v T) (hd : dec = (γ ^ 256 : ℝ))
    (hK : Rows K k T) (hV : Rows V v T) (hW : ∀ r d, W (ix3 0 r d) = (γ ^ (255 - r.val) : ℝ)) :
    IsSt (stU S dec K V W) γ k v (T + 256) := fun d e =>
  (stU_at S dec K V W _).trans (RetMath.st_step (hS d e) hd (fun r => hK r d) (fun r => hW r d) (fun r => hV r e))

theorem yU_val {γ a : ℝ} {q k v : ℕ → ℕ → ℝ} {T : ℕ} {S : FVec Ideal S128x128 .f32}
    {Q K V G : FVec Ideal S256x128 .bf16} {M : FVec Ideal S1x256x256 .f32} {W : FVec Ideal S1x256x128 .f32} {N : FVec Ideal S1x128 .f32}
    (hS : IsSt S γ k v T) (hQ : Rows Q q T) (hK : Rows K k T) (hV : Rows V v T)
    (hM : ∀ i j : Fin 256, M (ix3 0 i j) = ((if j.val ≤ i.val then γ ^ (i.val - j.val) else 0) * a : ℝ))
    (hW : ∀ r d, W (ix3 0 r d) = (γ ^ (r.val + 1) * a : ℝ)) (x : S256x128.Idx) :
    yU (oU Q K V M W S) N G x
      = RetMath.gated (fun e => ((a * RetMath.out γ q k v (T + (x 0).val) e.val : ℝ) : EReal)) (N (ix2 0 (x 1))) (G x) (x 1) := by
  rw [yU_at]
  congr 1
  funext e
  exact (oU_at Q K V M W S _).trans
    (RetMath.out_step (x 0).isLt (fun d => hQ (x 0) d) hK (fun j => hV j e) (hM (x 0)) (hW (x 0)) (fun d => hS d e))

end Cert.KernelIdeal.RetUnit
-- ==== Proof.RetBlock.lean ====
/-
  The retention kernel, one grid point: what the body leaves in its [1024, 512] output block and in the carried state,
  from what the point's blocks and the state before it hold. The block is sixteen units: four chunks of 256 rows by four
  heads.
-/
module

public import proofs.«01_k».proof.Proof.RetUnit

@[expose] public section

set_option maxRecDepth 16384

noncomputable section

namespace Cert.KernelIdeal.RetBlock

open Cert.RetMath (hd cl col entry)
open Cert.KernelIdeal Cert.KernelIdeal.Gen Cert.KernelIdeal.Value Cert.KernelIdeal.RetUnit Idealize.ShloMosaic Idealize.ShloMosaic.TcCoe Idealize.SL.Sem

/-- A head's decay over one chunk, as the body names it. -/
def decay : ℕ → Ideal .f32
  | 0 => Named.named κ "decay0" 0x399ACCA1#32
  | 1 => Named.named κ "decay1" 0x3C9160A5#32
  | 2 => Named.named κ "decay2" 0x3E097FCE#32
  | _ => Named.named κ "decay3" 0x3EBBFC5D#32

theorem inbR {s h : ℕ} (hs : s < 4) (hh : h < 4) : ∀ a, (![256 * s, 128 * h] : Fin 2 → ℕ) a + (![256, 128] : Fin 2 → ℕ) a ≤ S1024x512.size a := by
  intro a
  match a with
  | ⟨0, _⟩ => show 256 * s + 256 ≤ 1024; omega
  | ⟨1, _⟩ => show 128 * h + 128 ≤ 512; omega

theorem inbT {n k h : ℕ} (hh : h < 4) : ∀ a, (![h, 0, 0] : Fin 3 → ℕ) a + (![1, n, k] : Fin 3 → ℕ) a ≤ (⟨3, ![4, n, k]⟩ : Shape).size a := by
  intro a
  match a with
  | ⟨0, _⟩ => show h + 1 ≤ 4; omega
  | ⟨1, _⟩ => show 0 + n ≤ n; omega
  | ⟨2, _⟩ => show 0 + k ≤ k; omega

theorem inbN {h : ℕ} (hh : h < 4) : ∀ a, (![h, 0] : Fin 2 → ℕ) a + (![1, 128] : Fin 2 → ℕ) a ≤ S4x128.size a := by
  intro a
  match a with
  | ⟨0, _⟩ => show h + 1 ≤ 4; omega
  | ⟨1, _⟩ => show 0 + 128 ≤ 128; omega

/-- The rows and columns of unit `(s, h)`, and head `h` of a table. -/
def unitOf (A : Vec Ideal S1024x512 .bf16) (s h : ℕ) (hs : s < 4) (hh : h < 4) : FVec Ideal S256x128 .bf16 :=
  View.ld A (Rect.unit ![256 * s, 128 * h] ![256, 128] (inbR hs hh))
def headOf {n k : ℕ} (A : Vec Ideal ⟨3, ![4, n, k]⟩ .f32) (h : ℕ) (hh : h < 4) : Vec Ideal ⟨3, ![1, n, k]⟩ .f32 :=
  View.ld A (Rect.unit ![h, 0, 0] ![1, n, k] (inbT hh))

/-- What a grid point reads: its blocks of queries, keys and values hold rows `T …` of real matrices, and the tables
    hold the powers of each head's decay. -/
structure Reads (Q K V : Vec Ideal S1024x512 .bf16) (M : Vec Ideal S4x256x256 .f32) (W X : Vec Ideal S4x256x128 .f32)
    (γ : ℕ → ℝ) (a : ℝ) (q k v : ℕ → ℕ → ℝ) (T : ℕ) : Prop where
  q_at : ∀ (r : Fin 1024) (j : Fin 512), Q (ix2 r j) = (q (T + r.val) j.val : ℝ)
  k_at : ∀ (r : Fin 1024) (j : Fin 512), K (ix2 r j) = (k (T + r.val) j.val : ℝ)
  v_at : ∀ (r : Fin 1024) (j : Fin 512), V (ix2 r j) = (v (T + r.val) j.val : ℝ)
  m_at : ∀ (h : Fin 4) (i j : Fin 256), M (ix3 h i j) = ((if j.val ≤ i.val then γ h.val ^ (i.val - j.val) else 0) * a : ℝ)
  w_at : ∀ (h : Fin 4) (r : Fin 256) (d : Fin 128), W (ix3 h r d) = (γ h.val ^ (255 - r.val) : ℝ)
  x_at : ∀ (h : Fin 4) (r : Fin 256) (d : Fin 128), X (ix3 h r d) = (γ h.val ^ (r.val + 1) * a : ℝ)
  d_at : ∀ h : ℕ, h < 4 → decay h = (γ h ^ 256 : ℝ)

/-- The carried state after `T` rows, all heads. -/
def Carried (S : Vec Ideal S4x128x128 .f32) (γ : ℕ → ℝ) (k v : ℕ → ℕ → ℝ) (T : ℕ) : Prop :=
  ∀ (h : Fin 4) (d e : Fin 128), S (ix3 h d e) = (RetMath.st (γ h.val) (col k h.val) (col v h.val) T d.val e.val : ℝ)

/-- A unit's rows, read out of a block. -/
theorem rows_unit {A : Vec Ideal S1024x512 .bf16} {f : ℕ → ℕ → ℝ} {T : ℕ} (hA : ∀ (r : Fin 1024) (j : Fin 512), A (ix2 r j) = (f (T + r.val) j.val : ℝ))
    (s h : ℕ) (hs : s < 4) (hh : h < 4) : Rows (unitOf A s h hs hh) (col f h) (T + 256 * s) := fun r d => by
  refine (View.ld_unit_apply_of A _ _ _ (ix2 r d) (ix2 ⟨256 * s + r.val, by omega⟩ ⟨128 * h + d.val, by omega⟩) fun i => ?_).trans ((hA _ _).trans ?_)
  · match i with
    | ⟨0, _⟩ => rfl
    | ⟨1, _⟩ => rfl
  · unfold col
    rw [show T + 256 * s + r.val = T + (256 * s + r.val) by omega]

/-- A head's slice of a table. -/
theorem headOf_at {n k : ℕ} (A : Vec Ideal ⟨3, ![4, n, k]⟩ .f32) (h : ℕ) (hh : h < 4) (r : Fin n) (d : Fin k) :
    headOf A h hh (ix3 0 r d) = A (ix3 ⟨h, hh⟩ r d) :=
  View.ld_unit_apply_of A _ _ _ _ (ix3 ⟨h, hh⟩ r d) fun i => by
    match i with
    | ⟨0, _⟩ => rfl
    | ⟨1, _⟩ => exact (Nat.zero_add _).symm
    | ⟨2, _⟩ => exact (Nat.zero_add _).symm

theorem cast_at (B : Vec Ideal S1x128x128 .f32) (d e : Fin 128) :
    shapeCast S128x128 B shapeCasts_S1x128x128_S128x128 (ix2 d e) = B (ix3 0 d e) := by
  pointwise

variable {Q K V G : Vec Ideal S1024x512 .bf16} {M : Vec Ideal S4x256x256 .f32} {W X : Vec Ideal S4x256x128 .f32}
  {N : Vec Ideal S4x128 .f32} {γ : ℕ → ℝ} {a : ℝ} {q k v : ℕ → ℕ → ℝ} {T : ℕ}

/-- The state before the first chunk: the carried state's slice. -/
theorem start {S : Vec Ideal S4x128x128 .f32} (hS : Carried S γ k v T) (h : ℕ) (hh : h < 4) :
    IsSt (shapeCast S128x128 (headOf S h hh) shapeCasts_S1x128x128_S128x128) (γ h) (col k h) (col v h) T := fun d e =>
  (cast_at _ d e).trans ((headOf_at S h hh d e).trans (hS ⟨h, hh⟩ d e))

/-- The state of head `h` after `s` chunks. -/
def stAt (K V : Vec Ideal S1024x512 .bf16) (W : Vec Ideal S4x256x128 .f32) (S : FVec Ideal S128x128 .f32) (h : ℕ) (hh : h < 4) :
    (s : ℕ) → s ≤ 4 → FVec Ideal S128x128 .f32
  | 0, _ => S
  | s + 1, hs => stU (stAt K V W S h hh s (by omega)) (decay h) (unitOf K s h (by omega) hh) (unitOf V s h (by omega) hh) (headOf W h hh)

theorem stAt_isSt (H : Reads Q K V M W X γ a q k v T) {S : FVec Ideal S128x128 .f32} {h : ℕ} (hh : h < 4)
    (hS : IsSt S (γ h) (col k h) (col v h) T) : ∀ (s : ℕ) (hs : s ≤ 4), IsSt (stAt K V W S h hh s hs) (γ h) (col k h) (col v h) (T + 256 * s)
  | 0, _ => hS
  | s + 1, hs => by
    have := isSt_step (stAt_isSt H hh hS s (by omega)) (H.d_at h hh) (rows_unit H.k_at s h (by omega) hh) (rows_unit H.v_at s h (by omega) hh)
      fun r d => (headOf_at W h hh r d).trans (H.w_at ⟨h, hh⟩ r d)
    exact this

/-- A unit's stored tile. -/
theorem tile (H : Reads Q K V M W X γ a q k v T) (N : Vec Ideal S4x128 .f32) (G : Vec Ideal S1024x512 .bf16) (s h : ℕ) (hs : s < 4) (hh : h < 4)
    {S : FVec Ideal S128x128 .f32} (hS : IsSt S (γ h) (col k h) (col v h) T)
    (x : S256x128.Idx) (y : S1024x512.Idx) (h0 : (y 0).val = 256 * s + (x 0).val) (h1 : (y 1).val = 128 * h + (x 1).val) :
    yU (oU (unitOf Q s h hs hh) (unitOf K s h hs hh) (unitOf V s h hs hh) (headOf M h hh) (headOf X h hh) (stAt K V W S h hh s (by omega)))
      (View.ld N (Rect.unit ![h, 0] ![1, 128] (inbN hh))) (unitOf G s h hs hh) x
      = entry γ a q k v N (G y) (T + (y 0).val) (hd (y 1)) (cl (y 1)) := by
  have x1 : (x 1).val < 128 := (x 1).isLt
  refine (yU_val (stAt_isSt H hh hS s (by omega)) (rows_unit H.q_at s h hs hh) (rows_unit H.k_at s h hs hh) (rows_unit H.v_at s h hs hh)
    (fun i j => (headOf_at M h hh i j).trans (H.m_at ⟨h, hh⟩ i j)) (fun r d => (headOf_at X h hh r d).trans (H.x_at ⟨h, hh⟩ r d)) x).trans ?_
  have eh : hd (y 1) = ⟨h, hh⟩ := Fin.ext (show (y 1).val / 128 = h by omega)
  have ee : cl (y 1) = x 1 := Fin.ext (show (y 1).val % 128 = (x 1).val by omega)
  have eN : View.ld N (Rect.unit ![h, 0] ![1, 128] (inbN hh)) (ix2 0 (x 1)) = N (ix2 ⟨h, hh⟩ (x 1)) :=
    View.ld_unit_apply_of N _ _ _ (ix2 0 (x 1)) _ fun i => by
      match i with
      | ⟨0, _⟩ => rfl
      | ⟨1, _⟩ => exact (Nat.zero_add _).symm
  have eG : unitOf G s h hs hh x = G y :=
    View.ld_unit_apply_of G _ _ _ x y fun i => by
      match i with
      | ⟨0, _⟩ => exact h0
      | ⟨1, _⟩ => exact h1
  rw [eN, eG, eh, ee, show T + 256 * s + (x 0).val = T + (y 0).val by omega]
  rfl

end Cert.KernelIdeal.RetBlock
-- ==== Proof.RetPoint.lean ====
/-
  The retention kernel, one grid point, continued: the tiles the body stores put together, at a point that starts a
  sequence (the state is zeroed) and at a point that carries on.
-/
module

public import proofs.«01_k».proof.Proof.RetBlock
public import Idealize.ShloMosaic.Lib.Pipeline.ReadBack

@[expose] public section

set_option maxRecDepth 16384

noncomputable section

namespace Cert.KernelIdeal.RetPoint

open Cert.RetMath (hd cl col entry)
open Cert.KernelIdeal Cert.KernelIdeal.Gen Cert.KernelIdeal.Value Cert.KernelIdeal.RetUnit Cert.KernelIdeal.RetBlock Idealize.ShloMosaic Idealize.ShloMosaic.TcCoe Idealize.SL.Sem

variable (m : (ℓ : Loc nD τ sig) → Buf (Elt Ideal) ℓ) {γ : ℕ → ℝ} {a : ℝ} {q k v : ℕ → ℕ → ℝ} {T : ℕ}

theorem back_at (B : FVec Ideal S128x128 .f32) (x : S1x128x128.Idx) :
    shapeCast S1x128x128 B shapeCasts_S128x128_S1x128x128 x = B (ix2 (x 1) (x 2)) := by
  pointwise

/-- A head's stored state. -/
theorem head_at {Q K V : Vec Ideal S1024x512 .bf16} {M : Vec Ideal S4x256x256 .f32} {W X : Vec Ideal S4x256x128 .f32}
    (H : Reads Q K V M W X γ a q k v T) {S : FVec Ideal S128x128 .f32} (h : ℕ) (hh : h < 4)
    (hS : IsSt S (γ h) (col k h) (col v h) T) (x : S1x128x128.Idx) (y : S4x128x128.Idx)
    (h0 : (y 0).val = h + (x 0).val) (h1 : (y 1).val = (x 1).val) (h2 : (y 2).val = (x 2).val) :
    shapeCast S1x128x128 (stAt K V W S h hh 4 le_rfl) shapeCasts_S128x128_S1x128x128 x
      = (RetMath.st (γ (y 0).val) (col k (y 0).val) (col v (y 0).val) (T + 1024) (y 1).val (y 2).val : ℝ) := by
  have x0 : (x 0).val < 1 := (x 0).isLt
  rw [back_at, show (y 0).val = h by omega, h1, h2]
  exact stAt_isSt H hh hS 4 le_rfl (x 1) (x 2)

theorem emb_head {h : ℕ} (hh : h < 4) (x : S1x128x128.Idx) (b : Fin 3) :
    ((Rect.unit (s := S4x128x128) ![h, 0, 0] ![1, 128, 128] (inbT hh)).emb x b).val = (![h, 0, 0] : Fin 3 → ℕ) b + (x b).val := by
  rw [Rect.emb_apply]
  show _ + 1 * _ = _
  rw [Nat.one_mul]
  rfl

theorem zero_at (i : S4x128x128.Idx) : k0_pay2 (F := Ideal) i = 0 := by
  pointwise [k0_pay2, constant]

/-- The state the body writes where a sequence starts is zero: no rows yet. -/
theorem fresh {sp : Space} (w : View sig .tc sp S4x128x128 .f32) (γ : ℝ) (k v : ℕ → ℕ → ℝ) (h : ℕ) (hh : h < 4) (i1) :
    IsSt (shapeCast (s := S1x128x128) S128x128 (w.readCov (Val := Elt Ideal)
        [(⟨Rect.unit (s := S4x128x128) ![0, 0, 0] ![4, 128, 128] i1, k0_pay2 (F := Ideal)⟩ : View.Piece (Elt Ideal) S4x128x128 .f32)]
        (Rect.unit (s := S4x128x128) ![h, 0, 0] ![1, 128, 128] (inbT hh)).toLoadRect)
      shapeCasts_S1x128x128_S128x128) γ k v 0 := fun d e => by
  refine (cast_at _ d e).trans ?_
  rw [RetMath.st_zero, View.readCov_eq_canon']
  refine Eq.trans (congrFun (View.canon_unit_zero (Val := Elt Ideal) (S := S4x128x128) (e := .f32) (off := ![0, 0, 0]) (by decide) i1 (k0_pay2 (F := Ideal))) _) ?_
  exact zero_at _

/-- The state carried on from a point where a sequence starts, -/
theorem st_A (c : Dev nD) (t : Fin cfg0.N) (h : t.val % 8 = 0)
    (H : Reads (iblk m c 0 t) (iblk m c 1 t) (iblk m c 2 t) (iblk m c 4 t) (iblk m c 5 t) (iblk m c 6 t) γ a q k v 0) :
    Carried (outsAt0 m c t.val t.isLt).2 γ k v (0 + 1024) := by
  have key : ∀ y : S4x128x128.Idx, (outsAt0 m c t.val t.isLt).2 y
      = (RetMath.st (γ (y 0).val) (col k (y 0).val) (col v (y 0).val) (0 + 1024) (y 1).val (y 2).val : ℝ) := by
    intro y
    rw [outsAt0_A m c t h]; frame_out
    refine View.canon_append_of_pieces (Val := Elt Ideal) (e := .f32) (fun y : S4x128x128.Idx => ((RetMath.st (γ (y 0).val) (col k (y 0).val) (col v (y 0).val) (0 + 1024) (y 1).val (y 2).val : ℝ) : EReal))
      [_] [_, _, _, _] ?_ y ?_
    · intro p hp x
      simp only [List.mem_cons, List.not_mem_nil, or_false] at hp
      rcases hp with rfl | rfl | rfl | rfl
      · exact head_at H 3 (by norm_num) (fresh (View.whole cc0_scratch0) _ _ _ 3 (by norm_num) inb_S4x128x128_S4x128x128_0_0_0) x _ (emb_head (by norm_num) x 0) ((emb_head (by norm_num) x 1).trans (Nat.zero_add _)) ((emb_head (by norm_num) x 2).trans (Nat.zero_add _))
      · exact head_at H 2 (by norm_num) (fresh (View.whole cc0_scratch0) _ _ _ 2 (by norm_num) inb_S4x128x128_S4x128x128_0_0_0) x _ (emb_head (by norm_num) x 0) ((emb_head (by norm_num) x 1).trans (Nat.zero_add _)) ((emb_head (by norm_num) x 2).trans (Nat.zero_add _))
      · exact head_at H 1 (by norm_num) (fresh (View.whole cc0_scratch0) _ _ _ 1 (by norm_num) inb_S4x128x128_S4x128x128_0_0_0) x _ (emb_head (by norm_num) x 0) ((emb_head (by norm_num) x 1).trans (Nat.zero_add _)) ((emb_head (by norm_num) x 2).trans (Nat.zero_add _))
      · exact head_at H 0 (by norm_num) (fresh (View.whole cc0_scratch0) _ _ _ 0 (by norm_num) inb_S4x128x128_S4x128x128_0_0_0) x _ (emb_head (by norm_num) x 0) ((emb_head (by norm_num) x 1).trans (Nat.zero_add _)) ((emb_head (by norm_num) x 2).trans (Nat.zero_add _))
    · exact View.cover_of_tiled_head _ _ _ rfl y
  exact fun h d e => key (ix3 h d e)

/-- and from a later point. -/
theorem st_B (c : Dev nD) (t : Fin cfg0.N) (h : ¬ t.val % 8 = 0)
    (H : Reads (iblk m c 0 t) (iblk m c 1 t) (iblk m c 2 t) (iblk m c 4 t) (iblk m c 5 t) (iblk m c 6 t) γ a q k v T)
    (hS : Carried (outsAt0 m c (t.val - 1) (Nat.lt_of_le_of_lt (Nat.sub_le _ _) t.isLt)).2 γ k v T) :
    Carried (outsAt0 m c t.val t.isLt).2 γ k v (T + 1024) := by
  have key : ∀ y : S4x128x128.Idx, (outsAt0 m c t.val t.isLt).2 y
      = (RetMath.st (γ (y 0).val) (col k (y 0).val) (col v (y 0).val) (T + 1024) (y 1).val (y 2).val : ℝ) := by
    intro y
    rw [outsAt0_B m c t h]; frame_out
    canon_tiles x hx
    all_goals rw [read_unread_whole]
    case piece0 => exact head_at H 3 (by norm_num) (start hS 3 (by norm_num)) x y hx0 hx1 hx2
    case piece1 => exact head_at H 2 (by norm_num) (start hS 2 (by norm_num)) x y hx0 hx1 hx2
    case piece2 => exact head_at H 1 (by norm_num) (start hS 1 (by norm_num)) x y hx0 hx1 hx2
    case piece3 => exact head_at H 0 (by norm_num) (start hS 0 (by norm_num)) x y (hx0.trans (Nat.zero_add _).symm) hx1 hx2
  exact fun h d e => key (ix3 h d e)

/-- The output block where a sequence starts, -/
theorem out_A (c : Dev nD) (t : Fin cfg0.N) (h : t.val % 8 = 0)
    (H : Reads (iblk m c 0 t) (iblk m c 1 t) (iblk m c 2 t) (iblk m c 4 t) (iblk m c 5 t) (iblk m c 6 t) γ a q k v 0) (y : S1024x512.Idx) :
    (outsAt0 m c t.val t.isLt).1 y
      = entry γ a q k v (iblk m c 7 t) (iblk m c 3 t y) (0 + (y 0).val) (hd (y 1)) (cl (y 1)) := by
  rw [outsAt0_A m c t h]; frame_out
  canon_tiles x hx
  case piece0 => exact tile H _ _ 3 3 (by norm_num) (by norm_num) (fresh (View.whole cc0_scratch0) _ _ _ _ (by norm_num) inb_S4x128x128_S4x128x128_0_0_0) x y hx0 hx1
  case piece1 => exact tile H _ _ 3 2 (by norm_num) (by norm_num) (fresh (View.whole cc0_scratch0) _ _ _ _ (by norm_num) inb_S4x128x128_S4x128x128_0_0_0) x y hx0 hx1
  case piece2 => exact tile H _ _ 3 1 (by norm_num) (by norm_num) (fresh (View.whole cc0_scratch0) _ _ _ _ (by norm_num) inb_S4x128x128_S4x128x128_0_0_0) x y hx0 hx1
  case piece3 => exact tile H _ _ 3 0 (by norm_num) (by norm_num) (fresh (View.whole cc0_scratch0) _ _ _ _ (by norm_num) inb_S4x128x128_S4x128x128_0_0_0) x y hx0 (hx1.trans (Nat.zero_add _).symm)
  case piece4 => exact tile H _ _ 2 3 (by norm_num) (by norm_num) (fresh (View.whole cc0_scratch0) _ _ _ _ (by norm_num) inb_S4x128x128_S4x128x128_0_0_0) x y hx0 hx1
  case piece5 => exact tile H _ _ 2 2 (by norm_num) (by norm_num) (fresh (View.whole cc0_scratch0) _ _ _ _ (by norm_num) inb_S4x128x128_S4x128x128_0_0_0) x y hx0 hx1
  case piece6 => exact tile H _ _ 2 1 (by norm_num) (by norm_num) (fresh (View.whole cc0_scratch0) _ _ _ _ (by norm_num) inb_S4x128x128_S4x128x128_0_0_0) x y hx0 hx1
  case piece7 => exact tile H _ _ 2 0 (by norm_num) (by norm_num) (fresh (View.whole cc0_scratch0) _ _ _ _ (by norm_num) inb_S4x128x128_S4x128x128_0_0_0) x y hx0 (hx1.trans (Nat.zero_add _).symm)
  case piece8 => exact tile H _ _ 1 3 (by norm_num) (by norm_num) (fresh (View.whole cc0_scratch0) _ _ _ _ (by norm_num) inb_S4x128x128_S4x128x128_0_0_0) x y hx0 hx1
  case piece9 => exact tile H _ _ 1 2 (by norm_num) (by norm_num) (fresh (View.whole cc0_scratch0) _ _ _ _ (by norm_num) inb_S4x128x128_S4x128x128_0_0_0) x y hx0 hx1
  case piece10 => exact tile H _ _ 1 1 (by norm_num) (by norm_num) (fresh (View.whole cc0_scratch0) _ _ _ _ (by norm_num) inb_S4x128x128_S4x128x128_0_0_0) x y hx0 hx1
  case piece11 => exact tile H _ _ 1 0 (by norm_num) (by norm_num) (fresh (View.whole cc0_scratch0) _ _ _ _ (by norm_num) inb_S4x128x128_S4x128x128_0_0_0) x y hx0 (hx1.trans (Nat.zero_add _).symm)
  case piece12 => exact tile H _ _ 0 3 (by norm_num) (by norm_num) (fresh (View.whole cc0_scratch0) _ _ _ _ (by norm_num) inb_S4x128x128_S4x128x128_0_0_0) x y (hx0.trans (Nat.zero_add _).symm) hx1
  case piece13 => exact tile H _ _ 0 2 (by norm_num) (by norm_num) (fresh (View.whole cc0_scratch0) _ _ _ _ (by norm_num) inb_S4x128x128_S4x128x128_0_0_0) x y (hx0.trans (Nat.zero_add _).symm) hx1
  case piece14 => exact tile H _ _ 0 1 (by norm_num) (by norm_num) (fresh (View.whole cc0_scratch0) _ _ _ _ (by norm_num) inb_S4x128x128_S4x128x128_0_0_0) x y (hx0.trans (Nat.zero_add _).symm) hx1
  case piece15 => exact tile H _ _ 0 0 (by norm_num) (by norm_num) (fresh (View.whole cc0_scratch0) _ _ _ _ (by norm_num) inb_S4x128x128_S4x128x128_0_0_0) x y (hx0.trans (Nat.zero_add _).symm) (hx1.trans (Nat.zero_add _).symm)

/-- and at a later point. -/
theorem out_B (c : Dev nD) (t : Fin cfg0.N) (h : ¬ t.val % 8 = 0)
    (H : Reads (iblk m c 0 t) (iblk m c 1 t) (iblk m c 2 t) (iblk m c 4 t) (iblk m c 5 t) (iblk m c 6 t) γ a q k v T)
    (hS : Carried (outsAt0 m c (t.val - 1) (Nat.lt_of_le_of_lt (Nat.sub_le _ _) t.isLt)).2 γ k v T) (y : S1024x512.Idx) :
    (outsAt0 m c t.val t.isLt).1 y
      = entry γ a q k v (iblk m c 7 t) (iblk m c 3 t y) (T + (y 0).val) (hd (y 1)) (cl (y 1)) := by
  rw [outsAt0_B m c t h]; frame_out
  canon_tiles x hx
  all_goals rw [read_unread_whole]
  case piece0 => exact tile H _ _ 3 3 (by norm_num) (by norm_num) (start hS 3 (by norm_num)) x y hx0 hx1
  case piece1 => exact tile H _ _ 3 2 (by norm_num) (by norm_num) (start hS 2 (by norm_num)) x y hx0 hx1
  case piece2 => exact tile H _ _ 3 1 (by norm_num) (by norm_num) (start hS 1 (by norm_num)) x y hx0 hx1
  case piece3 => exact tile H _ _ 3 0 (by norm_num) (by norm_num) (start hS 0 (by norm_num)) x y hx0 (hx1.trans (Nat.zero_add _).symm)
  case piece4 => exact tile H _ _ 2 3 (by norm_num) (by norm_num) (start hS 3 (by norm_num)) x y hx0 hx1
  case piece5 => exact tile H _ _ 2 2 (by norm_num) (by norm_num) (start hS 2 (by norm_num)) x y hx0 hx1
  case piece6 => exact tile H _ _ 2 1 (by norm_num) (by norm_num) (start hS 1 (by norm_num)) x y hx0 hx1
  case piece7 => exact tile H _ _ 2 0 (by norm_num) (by norm_num) (start hS 0 (by norm_num)) x y hx0 (hx1.trans (Nat.zero_add _).symm)
  case piece8 => exact tile H _ _ 1 3 (by norm_num) (by norm_num) (start hS 3 (by norm_num)) x y hx0 hx1
  case piece9 => exact tile H _ _ 1 2 (by norm_num) (by norm_num) (start hS 2 (by norm_num)) x y hx0 hx1
  case piece10 => exact tile H _ _ 1 1 (by norm_num) (by norm_num) (start hS 1 (by norm_num)) x y hx0 hx1
  case piece11 => exact tile H _ _ 1 0 (by norm_num) (by norm_num) (start hS 0 (by norm_num)) x y hx0 (hx1.trans (Nat.zero_add _).symm)
  case piece12 => exact tile H _ _ 0 3 (by norm_num) (by norm_num) (start hS 3 (by norm_num)) x y (hx0.trans (Nat.zero_add _).symm) hx1
  case piece13 => exact tile H _ _ 0 2 (by norm_num) (by norm_num) (start hS 2 (by norm_num)) x y (hx0.trans (Nat.zero_add _).symm) hx1
  case piece14 => exact tile H _ _ 0 1 (by norm_num) (by norm_num) (start hS 1 (by norm_num)) x y (hx0.trans (Nat.zero_add _).symm) hx1
  case piece15 => exact tile H _ _ 0 0 (by norm_num) (by norm_num) (start hS 0 (by norm_num)) x y (hx0.trans (Nat.zero_add _).symm) (hx1.trans (Nat.zero_add _).symm)

end Cert.KernelIdeal.RetPoint
-- ==== Proof.RetPow.lean ====
/-
  The decay powers: what the exponentials, logarithms and constants of both programs' tables are as real numbers.
-/
module

public import proofs.«01_k».proof.Proof.RetMath
public import Idealize.ShloMosaic.Lib.Pointwise

@[expose] public section

noncomputable section

namespace Cert.RetMath

open Idealize.ShloMosaic

/-- Head `h`'s decay, one less `2 ^ -(5 + h)`. -/
def gam (h : ℕ) : ℝ := 1 - 1 / 2 ^ (5 + h)

theorem gam_pos (h : ℕ) : 0 < gam h := by
  have : (1 : ℝ) / 2 ^ (5 + h) < 1 := by
    rw [div_lt_one (by positivity)]
    exact one_lt_pow₀ (by norm_num) (by omega)
  unfold gam; linarith

theorem two : Ideal.ofBits .f32 1073741824#32 = ((2 : ℝ) : EReal) := by
  simp [Ideal.ofBits, Ideal.ieee, -EReal.coe_mul]; norm_num

theorem neg_five : Ideal.ofBits .f32 3231711232#32 = ((-5 : ℝ) : EReal) := by
  simp [Ideal.ofBits, Ideal.ieee, -EReal.coe_mul]; norm_num

theorem lit255 : Ideal.ofBits .f32 1132396544#32 = ((255 : ℝ) : EReal) := by
  simp [Ideal.ofBits, Ideal.ieee, -EReal.coe_mul]; norm_num

theorem of_index (n : ℕ) (hn : n < 2 ^ 31) : (FloatOps.sitofp (F := Ideal) .f32 (BitVec.ofNat 32 n) : EReal) = ((n : ℝ) : EReal) := by
  have : (BitVec.ofNat 32 n).toInt = (n : ℤ) := by
    rw [BitVec.toInt_eq_toNat_of_lt] <;> rw [BitVec.toNat_ofNat, Nat.mod_eq_of_lt (by omega)]
    omega
  show (((BitVec.ofNat 32 n).toInt : ℝ) : EReal) = _
  rw [this]
  simp

/-- The logarithm the tables are computed from. -/
theorem log_gam (h : ℕ) : Ideal.log1p (-Ideal.pow ((2 : ℝ) : EReal) (((-5 : ℝ) : EReal) - ((h : ℝ) : EReal))) = (Real.log (gam h) : EReal) := by
  have e : Real.rpow 2 (-5 - (h : ℝ)) = 1 / 2 ^ (5 + h) := by
    show (2 : ℝ) ^ (-5 - (h : ℝ)) = _
    rw [show (-5 - (h : ℝ)) = -((5 + h : ℕ) : ℝ) by push_cast; ring, Real.rpow_neg (by norm_num), Real.rpow_natCast, one_div]
  rw [← EReal.coe_sub]
  show Ideal.log (1 + -((Real.rpow 2 (-5 - (h : ℝ)) : ℝ) : EReal)) = _
  rw [e, ← EReal.coe_neg, ← EReal.coe_one, ← EReal.coe_add, ← sub_eq_add_neg]
  show Ideal.log ((gam h : ℝ) : EReal) = _
  rw [Ideal.log_coe, if_neg (not_le.mpr (gam_pos h))]

/-- `n` times it, exponentiated, is the decay's `n`-th power. -/
theorem exp_gam (h n : ℕ) : Ideal.exp (((n : ℝ) : EReal) * (Real.log (gam h) : EReal)) = ((gam h ^ n : ℝ) : EReal) := by
  rw [← EReal.coe_mul, Ideal.exp_coe, ← Real.log_pow, Real.exp_log (pow_pos (gam_pos h) n)]

/-- An entry of the decay matrix: the power of the rows' distance on and below the diagonal, zero above. -/
theorem decay_entry (h i j : ℕ) (z : EReal) (hz : z = 0) :
    (if (0 : EReal) ≤ ((i : ℝ) : EReal) - ((j : ℝ) : EReal) then
        Ideal.exp (max (((i : ℝ) : EReal) - ((j : ℝ) : EReal)) 0 * (Real.log (gam h) : EReal)) else z)
      = ((if j ≤ i then gam h ^ (i - j) else 0 : ℝ) : EReal) := by
  have hc : (0 : EReal) ≤ ((i : ℝ) : EReal) - ((j : ℝ) : EReal) ↔ j ≤ i := by
    rw [← EReal.coe_sub, EReal.coe_nonneg, sub_nonneg, Nat.cast_le]
  by_cases hij : j ≤ i
  · rw [if_pos (hc.mpr hij), if_pos hij, max_eq_left (hc.mpr hij), ← EReal.coe_sub, ← Nat.cast_sub hij, exp_gam]
  · rw [if_neg (fun h => hij (hc.mp h)), if_neg hij, hz, EReal.coe_zero]

/-- The scale both programs apply. -/
def scale : ℝ := (Ideal.ofBits .f32 1035273459#32).toReal

theorem scale_eq : Ideal.ofBits .f32 1035273459#32 = ((scale : ℝ) : EReal) := by
  unfold scale
  simp [Ideal.ofBits, Ideal.ieee, -EReal.coe_mul]

end Cert.RetMath
-- ==== Proof.RetTables.lean ====
/-
  The retention kernel's tables: what the host operations before the call leave in the decay matrix, the key weights and
  the query weights.
-/
module

public import proofs.«01_k».proof.Proof.RetBlock
public import proofs.«01_k».proof.Proof.RetPow

@[expose] public section

set_option maxRecDepth 16384

noncomputable section

namespace Cert.KernelIdeal.RetTables

open Cert.KernelIdeal Cert.KernelIdeal.Gen Cert.KernelIdeal.Value Cert.KernelIdeal.RetBlock Idealize.ShloMosaic Idealize.ShloMosaic.TcCoe Idealize.SL.Sem

variable (m : (ℓ : Loc nD τ sig) → Buf (Elt Ideal) ℓ)

/-- The key weights: the decay's powers down to the chunk's last row. -/
theorem V_w (c : Dev nD) (i : S4x256x128.Idx) : V m c main_v45 i = ((RetMath.gam (i 0).val ^ (255 - (i 1).val) : ℝ) : EReal) := by
  unfold V hostOps0 hostOps0_1 hostOps0_2
  simp only [List.flatten_cons, List.flatten_nil, List.append_nil, List.cons_append, List.nil_append]
  after_results
  pointwise
  have h0 : (i 0).val < 4 := (i 0).isLt
  have h1 : (i 1).val < 256 := (i 1).isLt
  rw [RetMath.two, RetMath.neg_five, RetMath.of_index _ (by omega), RetMath.of_index _ (by omega), RetMath.log_gam, RetMath.lit255,
    ← EReal.coe_sub, show (255 : ℝ) - ((i 1).val : ℝ) = ((255 - (i 1).val : ℕ) : ℝ) by rw [Nat.cast_sub (by omega)]; norm_num, RetMath.exp_gam]

/-- The query weights: the decay's powers from the chunk's first row, scaled. -/
theorem V_x (c : Dev nD) (i : S4x256x128.Idx) : V m c main_v47 i = ((RetMath.gam (i 0).val ^ ((i 1).val + 1) * RetMath.scale : ℝ) : EReal) := by
  unfold V hostOps0 hostOps0_1 hostOps0_2
  simp only [List.flatten_cons, List.flatten_nil, List.append_nil, List.cons_append, List.nil_append]
  after_results
  pointwise
  have h0 : (i 0).val < 4 := (i 0).isLt
  have h1 : (i 1).val < 256 := (i 1).isLt
  rw [RetMath.two, RetMath.neg_five, RetMath.of_index _ (by omega), RetMath.of_index _ (by omega), RetMath.log_gam, RetMath.scale_eq,
    ← EReal.coe_one, ← EReal.coe_add, show ((i 1).val : ℝ) + 1 = (((i 1).val + 1 : ℕ) : ℝ) by push_cast; rfl, RetMath.exp_gam, EReal.coe_mul]

/-- The decay matrix, scaled. -/
theorem V_m (c : Dev nD) (i : S4x256x256.Idx) : V m c main_v25 i
    = (((if (i 2).val ≤ (i 1).val then RetMath.gam (i 0).val ^ ((i 1).val - (i 2).val) else 0) * RetMath.scale : ℝ) : EReal) := by
  unfold V hostOps0 hostOps0_1 hostOps0_2
  simp only [List.flatten_cons, List.flatten_nil, List.append_nil, List.cons_append, List.nil_append]
  after_results
  simp only [StableHlo.TRef.ofBuf_toBuf]
  simp only [StableHlo.TRef.toBuf, StableHlo.TRef.ofBuf]
  erw [cast_eq, cast_eq, cast_eq, cast_eq]
  pointwise
  have h0 : (i 0).val < 4 := (i 0).isLt
  have h1 : (i 1).val < 256 := (i 1).isLt
  have h2 : (i 2).val < 256 := (i 2).isLt
  have hz : (id (constant (F := Ideal) S_ .f32 0x00000000#32) ix0 : EReal) = 0 := by pointwise [id, constant]
  rw [RetMath.two, RetMath.neg_five, RetMath.of_index _ (by omega), RetMath.of_index _ (by omega), RetMath.of_index _ (by omega), RetMath.log_gam,
    RetMath.decay_entry _ _ _ _ hz, RetMath.scale_eq, EReal.coe_mul]

/-- The decay the body names is the decay's power over a chunk. -/
theorem decay_eq (h : ℕ) (hh : h < 4) : decay h = ((RetMath.gam h ^ 256 : ℝ) : EReal) := by
  match h, hh with
  | 0, _ => exact congrArg Real.toEReal (by norm_num [RetMath.gam])
  | 1, _ => exact congrArg Real.toEReal (by norm_num [RetMath.gam])
  | 2, _ => exact congrArg Real.toEReal (by norm_num [RetMath.gam])
  | 3, _ => exact congrArg Real.toEReal (by norm_num [RetMath.gam])

end Cert.KernelIdeal.RetTables
-- ==== Proof.RetSpec.lean ====
/-
  What both retentions compute, as a function of the argument arrays: gated retention of the projected activations, read
  as real numbers.
-/
module

public import proofs.«01_k».proof.Proof.RetPow
public import proofs.«01_k».proof.Proof.RetMath

@[expose] public section

noncomputable section

namespace Cert.RetMath

open Idealize.ShloMosaic

/-- The projected activations, and an entry of them as a real number. -/
abbrev Proj : Shape := ⟨2, ![16384, 8192]⟩
def real (X : Proj.Idx → EReal) (p j : ℕ) : ℝ :=
  if h : p < 16384 ∧ j < 8192 then (X (ix2 ⟨p, h.1⟩ ⟨j, h.2⟩)).toReal else 0

/-- The columns from `o` on of sequence `b`. -/
def part (X : Proj.Idx → EReal) (b o : ℕ) : ℕ → ℕ → ℝ := fun t j => real X (8192 * b + t) (o + j)

/-- The result: entry `i` of the two sequences' gated retention. -/
def result (X : Proj.Idx → EReal) (N : (⟨2, ![4, 128]⟩ : Shape).Idx → EReal) (i : (⟨2, ![16384, 512]⟩ : Shape).Idx) : EReal :=
  entry gam scale (part X ((i 0).val / 8192) 6144) (part X ((i 0).val / 8192) 6656) (part X ((i 0).val / 8192) 7168) N
    (X (ix2 (i 0) ⟨7680 + (i 1).val, by have : (i 1).val < 512 := (i 1).isLt; omega⟩)) ((i 0).val % 8192) (hd (i 1)) (cl (i 1))

/-- The columns that retention reads hold no infinity. -/
def Finite (X : Proj.Idx → EReal) : Prop :=
  ∀ (p : Fin 16384) (j : Fin 8192), 6144 ≤ j.val → j.val < 7680 → X (ix2 p j) ≠ ⊤ ∧ X (ix2 p j) ≠ ⊥

theorem Finite.eq {X : Proj.Idx → EReal} (hX : Finite X) (p : Fin 16384) (j : Fin 8192) (hj : 6144 ≤ j.val) (hj' : j.val < 7680) :
    X (ix2 p j) = (real X p.val j.val : EReal) := by
  unfold real
  rw [dif_pos ⟨p.isLt, j.isLt⟩]
  exact (EReal.coe_toReal (hX p j hj hj').1 (hX p j hj hj').2).symm

end Cert.RetMath
-- ==== Proof.RetArray.lean ====
/-
  The retention kernel's array after the run: every grid point reads its rows and the tables, so the state carried from
  point to point is the retention state of the rows before, and each block holds the retention's value at its place.
-/
module

public import proofs.«01_k».proof.Proof.RetPoint
public import proofs.«01_k».proof.Proof.RetTables
public import proofs.«01_k».proof.Proof.RetSpec

@[expose] public section

set_option maxRecDepth 16384

noncomputable section

namespace Cert.KernelIdeal.RetArray

open Cert.RetMath (hd cl col entry part real Finite gam scale)
open Cert.KernelIdeal Cert.KernelIdeal.Gen Cert.KernelIdeal.Value Cert.KernelIdeal.RetBlock Idealize.ShloMosaic Idealize.ShloMosaic.TcCoe Idealize.SL.Sem

variable (m : (ℓ : Loc nD τ sig) → Buf (Elt Ideal) ℓ)

/-- Where each window's block lies at grid point `t`. -/
theorem idx : ∀ t : Fin cfg0.N, win0_0.index t = ![t.val, 12] ∧ win0_1.index t = ![t.val, 13] ∧ win0_2.index t = ![t.val, 14]
    ∧ win0_3.index t = ![t.val, 15] ∧ win0_4.index t = ![0, 0, 0] ∧ win0_5.index t = ![0, 0, 0] ∧ win0_6.index t = ![0, 0, 0]
    ∧ win0_7.index t = ![0, 0] ∧ win0_8.index t = ![t.val, 0] ∧ t.val < 16 :=
  (by decide +kernel : ∀ t : Fin grid0.N, _)

/-- The projected activations, and the norm's weights. -/
def X (c : Dev nD) : RetMath.Proj.Idx → EReal := m ((c : Thread nD τ).loc main_arg0)
def N (c : Dev nD) : S4x128.Idx → EReal := m ((c : Thread nD τ).loc main_arg1)

theorem lt16 (t : Fin cfg0.N) : t.val < 16 := (idx t).2.2.2.2.2.2.2.2.2

/-- The blocks a grid point reads, as entries of the arrays. -/
theorem q_at (c : Dev nD) (t : Fin cfg0.N) (r : Fin 1024) (j : Fin 512) :
    iblk m c 0 t (ix2 r j) = X m c (ix2 ⟨1024 * t.val + r.val, by have := lt16 t; omega⟩ ⟨6144 + j.val, by omega⟩) := by
  unfold X
  blk_point [iblk, V, idx t]

theorem k_at (c : Dev nD) (t : Fin cfg0.N) (r : Fin 1024) (j : Fin 512) :
    iblk m c 1 t (ix2 r j) = X m c (ix2 ⟨1024 * t.val + r.val, by have := lt16 t; omega⟩ ⟨6656 + j.val, by omega⟩) := by
  unfold X
  blk_point [iblk, V, idx t]

theorem v_at (c : Dev nD) (t : Fin cfg0.N) (r : Fin 1024) (j : Fin 512) :
    iblk m c 2 t (ix2 r j) = X m c (ix2 ⟨1024 * t.val + r.val, by have := lt16 t; omega⟩ ⟨7168 + j.val, by omega⟩) := by
  unfold X
  blk_point [iblk, V, idx t]

theorem g_at (c : Dev nD) (t : Fin cfg0.N) (r : Fin 1024) (j : Fin 512) :
    iblk m c 3 t (ix2 r j) = X m c (ix2 ⟨1024 * t.val + r.val, by have := lt16 t; omega⟩ ⟨7680 + j.val, by omega⟩) := by
  unfold X
  blk_point [iblk, V, idx t]

theorem m_at (c : Dev nD) (t : Fin cfg0.N) (y : S4x256x256.Idx) : iblk m c 4 t y = V m c main_v25 y := by
  blk_point [iblk, idx t]

theorem w_at (c : Dev nD) (t : Fin cfg0.N) (y : S4x256x128.Idx) : iblk m c 5 t y = V m c main_v45 y := by
  blk_point [iblk, idx t]

theorem x_at (c : Dev nD) (t : Fin cfg0.N) (y : S4x256x128.Idx) : iblk m c 6 t y = V m c main_v47 y := by
  blk_point [iblk, idx t]

theorem n_at (c : Dev nD) (t : Fin cfg0.N) (y : S4x128.Idx) : iblk m c 7 t y = N m c y := by
  unfold N
  blk_point [iblk, V, idx t]

variable {m}

/-- An entry of the activations as one of its sequence's. -/
theorem part_at {c : Dev nD} (hX : Finite (X m c)) (t : Fin cfg0.N) (o : ℕ) (ho : 6144 ≤ o ∧ o ≤ 7168) (r : Fin 1024) (j : Fin 512) (h1 h2) :
    X m c (ix2 ⟨1024 * t.val + r.val, h1⟩ ⟨o + j.val, h2⟩) = ((part (X m c) (t.val / 8) o (1024 * (t.val % 8) + r.val) j.val : ℝ) : EReal) := by
  rw [hX.eq _ _ (by show 6144 ≤ o + j.val; omega) (by show o + j.val < 7680; omega)]
  unfold part
  rw [show 8192 * (t.val / 8) + (1024 * (t.val % 8) + r.val) = 1024 * t.val + r.val by omega]

/-- What grid point `t` reads. -/
theorem reads {c : Dev nD} (hX : Finite (X m c)) (t : Fin cfg0.N) :
    Reads (iblk m c 0 t) (iblk m c 1 t) (iblk m c 2 t) (iblk m c 4 t) (iblk m c 5 t) (iblk m c 6 t) gam scale
      (part (X m c) (t.val / 8) 6144) (part (X m c) (t.val / 8) 6656) (part (X m c) (t.val / 8) 7168) (1024 * (t.val % 8)) where
  q_at r j := (q_at m c t r j).trans (part_at hX t 6144 (by norm_num) r j _ _)
  k_at r j := (k_at m c t r j).trans (part_at hX t 6656 (by norm_num) r j _ _)
  v_at r j := (v_at m c t r j).trans (part_at hX t 7168 (by norm_num) r j _ _)
  m_at h i j := (m_at m c t _).trans (RetTables.V_m m c _)
  w_at h r d := (w_at m c t _).trans (RetTables.V_w m c _)
  x_at h r d := (x_at m c t _).trans (RetTables.V_x m c _)
  d_at h hh := RetTables.decay_eq h hh

/-- The state carried out of grid point `n`. -/
theorem carried {c : Dev nD} (hX : Finite (X m c)) (n : ℕ) (hn : n < cfg0.N) :
    Carried (outsAt0 m c n hn).2 gam (part (X m c) (n / 8) 6656) (part (X m c) (n / 8) 7168) (1024 * (n % 8) + 1024) := by
  induction n with
  | zero => exact RetPoint.st_A m c ⟨0, hn⟩ rfl (reads hX ⟨0, hn⟩)
  | succ n ih =>
    have H := reads hX ⟨n + 1, hn⟩
    by_cases h : (n + 1) % 8 = 0
    · have e : 1024 * ((n + 1) % 8) = 0 := by omega
      rw [e]
      simp only [e] at H
      exact RetPoint.st_A m c ⟨n + 1, hn⟩ h H
    · refine RetPoint.st_B m c ⟨n + 1, hn⟩ h H ?_
      have := ih (Nat.lt_of_succ_lt hn)
      show Carried (outsAt0 m c n _).2 gam (part (X m c) ((n + 1) / 8) 6656) (part (X m c) ((n + 1) / 8) 7168) (1024 * ((n + 1) % 8))
      rw [show (n + 1) / 8 = n / 8 by omega, show 1024 * ((n + 1) % 8) = 1024 * (n % 8) + 1024 by omega]
      exact this

/-- The block grid point `t` stores. -/
theorem stored {c : Dev nD} (hX : Finite (X m c)) (t : Fin cfg0.N) (y : S1024x512.Idx) :
    (outsAt0 m c t.val t.isLt).1 y = entry gam scale (part (X m c) (t.val / 8) 6144) (part (X m c) (t.val / 8) 6656) (part (X m c) (t.val / 8) 7168)
      (iblk m c 7 t) (iblk m c 3 t y) (1024 * (t.val % 8) + (y 0).val) (hd (y 1)) (cl (y 1)) := by
  have H := reads hX t
  by_cases h : t.val % 8 = 0
  · have e : 1024 * (t.val % 8) = 0 := by omega
    rw [e]
    rw [e] at H
    exact RetPoint.out_A m c t h H y
  · refine RetPoint.out_B m c t h H ?_ y
    have := carried hX (t.val - 1) (Nat.lt_of_le_of_lt (Nat.sub_le _ _) t.isLt)
    rw [show (t.val - 1) / 8 = t.val / 8 by omega, show 1024 * ((t.val - 1) % 8) + 1024 = 1024 * (t.val % 8) by omega] at this
    exact this

/-- A place of block `t`, in the array. -/
theorem place (t : Fin cfg0.N) (y : S1024x512.Idx) (i : S16384x512.Idx) (h0 : (i 0).val = 1024 * t.val + (y 0).val) (h1 : (i 1).val = (y 1).val)
    {c : Dev nD} : entry gam scale (part (X m c) (t.val / 8) 6144) (part (X m c) (t.val / 8) 6656) (part (X m c) (t.val / 8) 7168)
      (iblk m c 7 t) (iblk m c 3 t y) (1024 * (t.val % 8) + (y 0).val) (hd (y 1)) (cl (y 1)) = RetMath.result (X m c) (N m c) i := by
  have y0 : (y 0).val < 1024 := (y 0).isLt
  have hj : i 1 = y 1 := Fin.ext h1
  have hg : iblk m c 3 t y = X m c (ix2 (i 0) ⟨7680 + (i 1).val, by have : (i 1).val < 512 := (i 1).isLt; omega⟩) := by
    have hy : y = ix2 (n0 := 1024) (n1 := 512) (y 0) (y 1) := funext fun b => by match b with | ⟨0, _⟩ => rfl | ⟨1, _⟩ => rfl
    refine (congrArg (iblk m c 3 t) hy).trans ?_
    refine (g_at m c t (y 0) (y 1)).trans (congrArg (X m c) (funext fun b => ?_))
    match b with
    | ⟨0, _⟩ => exact Fin.ext h0.symm
    | ⟨1, _⟩ => exact Fin.ext (by show 7680 + (y 1).val = 7680 + (i 1).val; omega)
  have e1 : (i 0).val / 8192 = t.val / 8 := by omega
  have e2 : (i 0).val % 8192 = 1024 * (t.val % 8) + (y 0).val := by omega
  have h7 : iblk m c 7 t = N m c := funext (n_at m c t)
  have hh : hd (i 1) = hd (y 1) := congrArg hd hj
  have hc : cl (i 1) = cl (y 1) := congrArg cl hj
  unfold RetMath.result
  rw [e1, e2, h7, hg, hh, hc]

/-- The array the kernel leaves: gated retention of the activations. -/
theorem final {c : Dev nD} (hX : Finite (X m c)) : (dats m 0 c).arrAt 8 cfg0.N = fun i : S16384x512.Idx => RetMath.result (X m c) (N m c) i := by
  refine (dats m 0 c).arrAt_eq_of_covers 8 _ (by decide +kernel) fun t _ y => ?_
  blk_simp
  rw [after0_8]
  refine (stored hX t y).trans ?_
  refine place t y _ ?_ ?_
  · show win0_8.index t 0 * 1024 + 1 * (y 0).val = _
    rw [(idx t).2.2.2.2.2.2.2.2.1]
    show t.val * 1024 + 1 * (y 0).val = _
    omega
  · show win0_8.index t 1 * 512 + 1 * (y 1).val = _
    rw [(idx t).2.2.2.2.2.2.2.2.1]
    show 0 * 512 + 1 * (y 1).val = _
    omega

end Cert.KernelIdeal.RetArray
-- ==== Proof.RetPre.lean ====
/-
  The precondition, read: no entry of the columns that retention reads is an infinity.
-/
module

public import proofs.«01_k».proof.Proof.RetSpec
public import proofs.«01_k».proof.Proof.Gen.Pre_finite_qkv

@[expose] public section

noncomputable section

namespace Cert.RetMath

open Idealize.ShloMosaic Cert.Pre_finite_qkv

/-- The comparison's bound. -/
theorem bound : Ideal.ofBits .f32 2139095040#32 = (⊤ : EReal) := by
  simp [Ideal.ofBits, Ideal.ieee]

theorem finite_of_pre {X : Proj.Idx → EReal} {N : S4x128.Idx → EReal} (h : Cert.Pre_finite_qkv.fn (F := Ideal) X N = fun _ => 1#1) : Finite X := by
  intro p j hj hj'
  have := congrFun h (ix2 p ⟨j.val - 6144, by omega⟩)
  revert this
  pointwise [Cert.Pre_finite_qkv.fn, constant]
  have e : 6144 + (j.val - 6144) = j.val := by omega
  simp only [e, bound]
  show BitVec.ofBool (decide (max (X (ix2 p j)) (-(X (ix2 p j))) < (⊤ : EReal))) = 1#1 → _
  intro h
  by_cases hlt : max (X (ix2 p j)) (-(X (ix2 p j))) < (⊤ : EReal)
  · have := max_lt_iff.mp hlt
    exact ⟨this.1.ne, fun hb => by rw [hb] at this; exact absurd this.2 (by simp)⟩
  · simp [hlt] at h

end Cert.RetMath
-- ==== Proof.RetRefRun.lean ====
/-
  The retention reference, its run: what the loop over the chunks leaves untouched, and the frame.
-/
module

public import proofs.«01_k».proof.Defs
public import proofs.«01_k».proof.Proof.Gen.ReferenceIdeal.Run

@[expose] public section

set_option maxRecDepth 16384

noncomputable section

namespace Cert.ReferenceIdeal.RetRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The buffers that one trip round the loop writes. -/
abbrev loopW : List (Ref sig .tc) := condOps_W ++ (while0Ops0_W ++ (while0Ops0_1_W ++ (while0Ops0_2_W ++ while0Ops0_3_W)))

/-- A buffer that no operation of the loop writes holds at every trip what it held at the entry. -/
theorem trips_keep (W : Dev nD → Valuation τ sig (Elt F)) (c : Dev nD) (r : Ref sig .tc) (h : r ∉ loopW) :
    ∀ k, atTrip condOps bodyI W k c (Proc.devRef .tc r) = W c (Proc.devRef .tc r)
  | 0 => rfl
  | k + 1 => by
    simp only [loopW, List.mem_append, not_or] at h
    rw [atTrip_succ]
    simp only [afterL_cons, afterL_nil]
    rw [after_of_writes_sub _ _ while0Ops0_3_writes h.2.2.2.2, after_of_writes_sub _ _ while0Ops0_2_writes h.2.2.2.1,
      after_of_writes_sub _ _ while0Ops0_1_writes h.2.2.1, after_of_writes_sub _ _ while0Ops0_writes h.2.1,
      after_of_writes_sub _ _ condOps_writes h.1]
    exact trips_keep W c r (by simpa only [loopW, List.mem_append, not_or] using h) k

/-- The contents as the loop ends. -/
abbrev atEnd (c : Dev nD) : Valuation τ sig (Elt F) := after condOps (atTrip condOps bodyI (entryContents preI m) 64 c)

/-- A buffer that the loop does not write holds as the loop ends what it held at the entry. -/
theorem end_keep (c : Dev nD) (r : Ref sig .tc) (h : r ∉ loopW) :
    atEnd m c (Proc.devRef .tc r) = entryContents preI m c (Proc.devRef .tc r) :=
  (after_of_writes_sub _ _ condOps_writes (fun hr => h (List.mem_append_left _ hr))).trans (trips_keep _ c r h 64)

theorem kept (c : Dev nD) (r : Ref sig .tc) (h : r ∉ loopW)
    (hpre : ∀ V : Valuation τ sig (Elt F), afterL preI V (Proc.devRef .tc r) = V (Proc.devRef .tc r))
    (hpost : ∀ V : Valuation τ sig (Elt F), afterL postI V (Proc.devRef .tc r) = V (Proc.devRef .tc r)) :
    finalContents condOps preI bodyI postI 64 m c (Proc.devRef .tc r) = launchContents m c (Proc.devRef .tc r) :=
  (hpost _).trans ((end_keep m c r h).trans (hpre _))

theorem run_kept : θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c main_arg0 rfl).trans (kept m c main_arg0 (by decide)
        (fun V => by simp only [afterL_cons, afterL_nil]; after_reads_simp)
        (fun V => by simp only [afterL_cons, afterL_nil]; after_reads_simp)),
      (h c main_arg1 rfl).trans (kept m c main_arg1 (by decide)
        (fun V => by simp only [afterL_cons, afterL_nil]; after_reads_simp)
        (fun V => by simp only [afterL_cons, afterL_nil]; after_reads_simp))⟩) (run_fold m ρ)

theorem frame : Cert.quiescent_ReferenceIdeal := fun m ρ _ =>
  (θ_run defs _ _).mono (fun r h => ⟨h, sem_eq_zero_of_no_sems (by decide) r.2⟩) (run_kept (F := Ideal) m ρ)

end Cert.ReferenceIdeal.RetRun

end
-- ==== Proof.RetEntry.lean ====
/-
  The retention reference up to its loop, as plain arrays: heads and chunks of the projections, the decay tables, what a
  chunk adds to the state, and what its own rows give.
-/
module

public import proofs.«01_k».proof.Proof.RetSpec
public import proofs.«01_k».proof.Proof.RetRefRun
public import Idealize.ShloMosaic.Lib.Pipeline.ValueKit

@[expose] public section

set_option maxRecDepth 16384

noncomputable section

namespace Cert.ReferenceIdeal.RetEntry

open Cert.ReferenceIdeal Cert.ReferenceIdeal.Gen Cert.ReferenceIdeal.Value
open Idealize.ShloMosaic Idealize.ShloMosaic.TcCoe Idealize.SL.Sem Idealize.ShloMosaic.StableHlo

/-- A projection's columns from `o` on, and their heads. -/
def cut (o : ℕ) (h : S2x8192x8192.Slices ![0, 0, o] S2x8192x512) (X : FVec Ideal S16384x8192 .bf16) : FVec Ideal S2x8192x512 .f32 :=
  extractStridedSlice S2x8192x512 ![0, 0, o] (shapeCast S2x8192x8192 (extf .f32 X bitsLt_bf16_f32) shapeCasts_S16384x8192_S2x8192x8192) h

def heads (A : FVec Ideal S2x8192x512 .f32) : FVec Ideal S2x4x8192x128 .f32 :=
  transpose S2x4x8192x128 [0, 2, 1, 3] (shapeCast S2x8192x4x128 A shapeCasts_S2x8192x512_S2x8192x4x128) transposes_S2x8192x4x128_S2x4x8192x128_0_2_1_3

/-- Queries, scaled keys and values by chunk; the gate. -/
def Q (X : FVec Ideal S16384x8192 .bf16) : FVec Ideal S2x4x64x128x128 .f32 :=
  shapeCast S2x4x64x128x128 (heads (cut 6144 slices_S2x8192x8192_S2x8192x512_0_0_6144 X)) shapeCasts_S2x4x8192x128_S2x4x64x128x128
def K (X : FVec Ideal S16384x8192 .bf16) : FVec Ideal S2x4x64x128x128 .f32 :=
  shapeCast S2x4x64x128x128 (mulf (heads (cut 6656 slices_S2x8192x8192_S2x8192x512_0_0_6656 X))
    (broadcastInDim S2x4x8192x128 ![] bcast_S_S2x4x8192x128 (constant S_ .f32 0x3DB504F3#32))) shapeCasts_S2x4x8192x128_S2x4x64x128x128
def V (X : FVec Ideal S16384x8192 .bf16) : FVec Ideal S2x4x64x128x128 .f32 :=
  shapeCast S2x4x64x128x128 (heads (cut 7168 slices_S2x8192x8192_S2x8192x512_0_0_7168 X)) shapeCasts_S2x4x8192x128_S2x4x64x128x128
def G (X : FVec Ideal S16384x8192 .bf16) : FVec Ideal S2x8192x512 .f32 := cut 7680 slices_S2x8192x8192_S2x8192x512_0_0_7680 X

/-- The heads' log decays, the rows of a chunk. -/
def lg : FVec Ideal S4x1 .f32 := broadcastInDim S4x1 ![0] bcast_S4_S4x1_0 (Host.log1p (Host.negf (Host.powf
  (broadcastInDim S4 ![] bcast_S_S4 (constant S_ .f32 0x40000000#32))
  (subf (broadcastInDim S4 ![] bcast_S_S4 (constant S_ .f32 0xC0A00000#32)) (sitofp .f32 (iotaInDim S4 32 0))))))
def pos : FVec Ideal S128 .f32 := sitofp .f32 (iotaInDim S128 32 0)

/-- Differences of rows, and the decay inside a chunk. -/
def diff : FVec Ideal S128x128 .f32 := subf
  (broadcastInDim S128x128 ![0, 1] bcast_S128x1_S128x128_0_1 (broadcastInDim S128x1 ![0] bcast_S128_S128x1_0 pos))
  (broadcastInDim S128x128 ![0, 1] bcast_S1x128_S128x128_0_1 (broadcastInDim S1x128 ![1] bcast_S128_S1x128_1 pos))
def dec : FVec Ideal S4x128x128 .f32 := select
  (broadcastInDim S4x128x128 ![1, 2] bcast_S128x128_S4x128x128_1_2 (cmpf .oge diff (broadcastInDim S128x128 ![] bcast_S_S128x128 (constant S_ .f32 0x00000000#32))))
  (Host.exp (mulf
    (broadcastInDim S4x128x128 ![0, 1, 2] bcast_S1x128x128_S4x128x128_0_1_2 (broadcastInDim S1x128x128 ![1, 2] bcast_S128x128_S1x128x128_1_2
      (maximumf diff (broadcastInDim S128x128 ![] bcast_S_S128x128 (constant S_ .f32 0x00000000#32)))))
    (broadcastInDim S4x128x128 ![0, 1, 2] bcast_S4x1x1_S4x128x128_0_1_2 (broadcastInDim S4x1x1 ![0, 1] bcast_S4x1_S4x1x1_0_1 lg))))
  (broadcastInDim S4x128x128 ![] bcast_S_S4x128x128 (constant S_ .f32 0x00000000#32))

/-- What a chunk's own rows give. -/
def intra (X : FVec Ideal S16384x8192 .bf16) : FVec Ideal S2x4x64x128x128 .f32 :=
  Host.dotGeneral dot_S2x4x64x128x128_S2x4x64x128x128_S2x4x64x128x128_4_3_3_4_012_012 none
    (mulf (Host.dotGeneral dot_S2x4x64x128x128_S2x4x64x128x128_S2x4x64x128x128_4_4_3_3_012_012 none (Q X) (K X))
      (broadcastInDim S2x4x64x128x128 ![0, 1, 2, 3, 4] bcast_S1x4x1x128x128_S2x4x64x128x128_0_1_2_3_4
        (broadcastInDim S1x4x1x128x128 ![1, 3, 4] bcast_S4x128x128_S1x4x1x128x128_1_3_4 dec))) (V X)

/-- What a chunk adds to the state, and the decay over a chunk. -/
def kw : FVec Ideal S4x128 .f32 := Host.exp (mulf
  (broadcastInDim S4x128 ![0, 1] bcast_S1x128_S4x128_0_1 (broadcastInDim S1x128 ![1] bcast_S128_S1x128_1
    (subf (broadcastInDim S128 ![] bcast_S_S128 (constant S_ .f32 0x42FE0000#32)) pos)))
  (broadcastInDim S4x128 ![0, 1] bcast_S4x1_S4x128_0_1 lg))
def kv (X : FVec Ideal S16384x8192 .bf16) : FVec Ideal S64x2x4x128x128 .f32 :=
  Host.dotGeneral dot_S2x4x64x128x128_S2x4x64x128x128_S64x2x4x128x128_3_3_4_4_201_201 none
    (mulf (K X) (broadcastInDim S2x4x64x128x128 ![0, 1, 2, 3, 4] bcast_S1x4x1x128x1_S2x4x64x128x128_0_1_2_3_4
      (broadcastInDim S1x4x1x128x1 ![1, 3] bcast_S4x128_S1x4x1x128x1_1_3 kw))) (V X)
def cdec : FVec Ideal S4x1x1 .f32 := broadcastInDim S4x1x1 ![0, 1] bcast_S4x1_S4x1x1_0_1
  (Host.exp (mulf (broadcastInDim S4x1 ![] bcast_S_S4x1 (constant S_ .f32 0x43000000#32)) lg))

variable (m : (ℓ : Loc nD τ sig) → Buf (Elt Ideal) ℓ)

/-- The contents as the loop starts. -/
abbrev E (c : Dev nD) : Valuation τ sig (Elt Ideal) := entryContents preI m c
def X (c : Dev nD) : FVec Ideal S16384x8192 .bf16 := m ((c : Thread nD τ).loc main_arg0)

theorem E_q (c : Dev nD) : E m c (Proc.devRef .tc main_v14) = Q (X m c) := by
  unfold E
  simp only [entryContents, afterL_cons, afterL_nil]; after_results; rfl

theorem E_g (c : Dev nD) : E m c (Proc.devRef .tc main_v5) = G (X m c) := by
  unfold E
  simp only [entryContents, afterL_cons, afterL_nil]; after_results; rfl

theorem E_lg (c : Dev nD) : E m c (Proc.devRef .tc main_v24) = lg := by
  unfold E
  simp only [entryContents, afterL_cons, afterL_nil]; after_results; rfl

theorem E_pos (c : Dev nD) : E m c (Proc.devRef .tc main_v25) = pos := by
  unfold E
  simp only [entryContents, afterL_cons, afterL_nil]; after_results; rfl

theorem E_intra (c : Dev nD) : E m c (Proc.devRef .tc main_v46) = intra (X m c) := by
  unfold E
  simp only [entryContents, afterL_cons, afterL_nil]; after_results
  simp only [StableHlo.TRef.ofBuf_toBuf]; rfl

theorem E_kv (c : Dev nD) : E m c (Proc.devRef .tc main_v64_0) = kv (X m c) := by
  unfold E
  simp only [entryContents, afterL_cons, afterL_nil]; after_results; rfl

theorem E_cdec (c : Dev nD) : E m c (Proc.devRef .tc main_v64_1) = cdec := by
  unfold E
  simp only [entryContents, afterL_cons, afterL_nil]; after_results; rfl

end Cert.ReferenceIdeal.RetEntry
-- ==== Proof.RetTerms.lean ====
/-
  The retention reference up to its loop, read: each array's entry as a real number, over finite activations.
-/
module

public import proofs.«01_k».proof.Proof.RetEntry

@[expose] public section

set_option maxRecDepth 16384

noncomputable section

namespace Cert.ReferenceIdeal.RetTerms

open Cert.RetMath (hd cl col entry part real Finite gam scale)
open Cert.ReferenceIdeal Cert.ReferenceIdeal.Gen Cert.ReferenceIdeal.Value Cert.ReferenceIdeal.RetEntry
open Idealize.ShloMosaic Idealize.ShloMosaic.TcCoe Idealize.SL.Sem Idealize.ShloMosaic.StableHlo

variable {X : FVec Ideal S16384x8192 .bf16}

/-- An entry of the activations as one of its head's. -/
theorem col_at (hX : Finite X) (o b h t d : ℕ) (ho : 6144 ≤ o ∧ o ≤ 7168) (hh : h < 4) (hd : d < 128) (h1 h2) :
    X (ix2 ⟨b * 8192 + t, h1⟩ ⟨o + (h * 128 + d), h2⟩) = ((col (part X b o) h t d : ℝ) : EReal) := by
  refine (hX.eq _ _ (by show 6144 ≤ o + _; omega) (by show o + (h * 128 + d) < 7680; omega)).trans ?_
  show ((real X (b * 8192 + t) (o + (h * 128 + d)) : ℝ) : EReal) = ((real X (8192 * b + t) (o + (128 * h + d)) : ℝ) : EReal)
  rw [Nat.mul_comm b, Nat.mul_comm h]

theorem q_at (hX : Finite X) (b : Fin 2) (h : Fin 4) (n : Fin 64) (i d : Fin 128) :
    Q X (ix5 b h n i d) = ((col (part X b.val 6144) h.val (128 * n.val + i.val) d.val : ℝ) : EReal) := by
  pointwise [Q, heads, cut]
  refine (col_at hX 6144 _ _ _ _ (by norm_num) h.isLt d.isLt _ _).trans ?_
  rw [Nat.mul_comm n.val]

theorem k_at (hX : Finite X) (b : Fin 2) (h : Fin 4) (n : Fin 64) (i d : Fin 128) :
    K X (ix5 b h n i d) = ((col (part X b.val 6656) h.val (128 * n.val + i.val) d.val * scale : ℝ) : EReal) := by
  pointwise [K, heads, cut]
  rw [col_at hX 6656 _ _ _ _ (by norm_num) h.isLt d.isLt, RetMath.scale_eq, EReal.coe_mul, Nat.mul_comm n.val]

theorem v_at (hX : Finite X) (b : Fin 2) (h : Fin 4) (n : Fin 64) (i d : Fin 128) :
    V X (ix5 b h n i d) = ((col (part X b.val 7168) h.val (128 * n.val + i.val) d.val : ℝ) : EReal) := by
  pointwise [V, heads, cut]
  refine (col_at hX 7168 _ _ _ _ (by norm_num) h.isLt d.isLt _ _).trans ?_
  rw [Nat.mul_comm n.val]

theorem lg_at (i : S4x1.Idx) : lg i = ((Real.log (gam (i 0).val) : ℝ) : EReal) := by
  have h0 : (i 0).val < 4 := (i 0).isLt
  pointwise [lg]
  rw [RetMath.two, RetMath.neg_five, RetMath.of_index _ (by omega), RetMath.log_gam]

theorem pos_at (i : S128.Idx) : pos i = (((i 0).val : ℝ) : EReal) := by
  have h0 : (i 0).val < 128 := (i 0).isLt
  pointwise [pos]
  rw [RetMath.of_index _ (by omega)]

theorem dec_at (h : Fin 4) (i j : Fin 128) : dec (ix3 h i j) = ((if j.val ≤ i.val then gam h.val ^ (i.val - j.val) else 0 : ℝ) : EReal) := by
  pointwise [dec, diff]
  rw [lg_at, pos_at, pos_at]
  exact RetMath.decay_entry _ _ _ _ rfl

theorem lit127 : Ideal.ofBits .f32 1123942400#32 = ((127 : ℝ) : EReal) := by
  simp [Ideal.ofBits, Ideal.ieee, -EReal.coe_mul]; norm_num

theorem lit128 : Ideal.ofBits .f32 1124073472#32 = ((128 : ℝ) : EReal) := by
  simp [Ideal.ofBits, Ideal.ieee, -EReal.coe_mul]; norm_num

theorem kw_at (h : Fin 4) (r : Fin 128) : kw (ix2 h r) = ((gam h.val ^ (128 - 1 - r.val) : ℝ) : EReal) := by
  pointwise [kw]
  rw [lg_at, pos_at, lit127, ← EReal.coe_sub]
  have e : (127 : ℝ) - (r.val : ℝ) = ((128 - 1 - r.val : ℕ) : ℝ) := by rw [Nat.cast_sub (by omega)]; norm_num
  refine Eq.trans ?_ (RetMath.exp_gam h.val (128 - 1 - r.val))
  rw [← e]
  rfl

theorem cdec_at (h : Fin 4) (x y : Fin 1) : cdec (ix3 h x y) = ((gam h.val ^ 128 : ℝ) : EReal) := by
  pointwise [cdec]
  rw [lg_at, lit128]
  exact RetMath.exp_gam h.val 128

theorem kv_at (n : Fin 64) (b : Fin 2) (h : Fin 4) (d e : Fin 128) :
    kv X (ix5 n b h d e) = ∑ r : Fin 128, K X (ix5 b h n r d) * kw (ix2 h r) * V X (ix5 b h n r e) := by
  pointwise [kv]

theorem intra_at (b : Fin 2) (h : Fin 4) (n : Fin 64) (i e : Fin 128) :
    intra X (ix5 b h n i e) = ∑ j : Fin 128, (∑ d : Fin 128, Q X (ix5 b h n i d) * K X (ix5 b h n j d)) * dec (ix3 h i j) * V X (ix5 b h n j e) := by
  pointwise [intra]

theorem g_at (b : Fin 2) (t : Fin 8192) (j : Fin 512) :
    G X (ix3 b t j) = X (ix2 ⟨b.val * 8192 + t.val, by omega⟩ ⟨7680 + j.val, by omega⟩) := by
  pointwise [G, cut]

end Cert.ReferenceIdeal.RetTerms
-- ==== Proof.RetLoop.lean ====
/-
  The retention reference's loop over the chunks: the state before trip `n` is the retention state of `n` chunks, and trip
  `n` stores it as row `n`.
-/
module

public import proofs.«01_k».proof.Proof.RetTerms

@[expose] public section

set_option maxRecDepth 16384

noncomputable section

namespace Cert.ReferenceIdeal.RetLoop

open Cert.RetMath (hd cl col entry part real Finite gam scale)
open Cert.ReferenceIdeal Cert.ReferenceIdeal.Gen Cert.ReferenceIdeal.Value Cert.ReferenceIdeal.RetEntry Cert.ReferenceIdeal.RetTerms
open Idealize.ShloMosaic Idealize.ShloMosaic.TcCoe Idealize.SL.Sem Idealize.ShloMosaic.StableHlo

/-- Where trip `k` reads and stores: chunk `k`. -/
def place (k : ℕ) : Fin 5 → ℤ := fun j => ((![fun _ => BitVec.ofNat 32 k, constantI S_ 32 0#32, constantI S_ 32 0#32, constantI S_ 32 0#32,
  constantI S_ 32 0#32] : Fin 5 → (⟨S_, .i32⟩ : BufTy).Contents (Elt Ideal)) j (Shape.Idx.first h_S_)).toInt

theorem clamped (h) (k : ℕ) (hk : k < 64) : Host.clampedStart S64x2x4x128x128 S1x2x4x128x128 h (place k) = ![k, 0, 0, 0, 0] := by
  have hk' : (BitVec.ofNat 32 k).toInt = (k : ℤ) := by
    rw [BitVec.toInt_eq_toNat_of_lt] <;> rw [BitVec.toNat_ofNat, Nat.mod_eq_of_lt (by omega)]
    omega
  funext j
  match j with
  | ⟨0, _⟩ => exact Host.clampedStart_of_le h _ _ k hk' (by show k + 1 ≤ 64; omega)
  | ⟨1, _⟩ => rfl
  | ⟨2, _⟩ => rfl
  | ⟨3, _⟩ => rfl
  | ⟨4, _⟩ => rfl

/-- A trip's state: the one before, decayed, and what the chunk adds. -/
def next (A : FVec Ideal S64x2x4x128x128 .f32) (C : FVec Ideal S4x1x1 .f32) (S : FVec Ideal S2x4x128x128 .f32) (p : Fin 5 → ℤ) : FVec Ideal S2x4x128x128 .f32 :=
  addf (mulf S (broadcastInDim S2x4x128x128 ![0, 1, 2, 3] bcast_S1x4x1x1_S2x4x128x128_0_1_2_3 (broadcastInDim S1x4x1x1 ![1, 2, 3] bcast_S4x1x1_S1x4x1x1_1_2_3 C)))
    (shapeCast S2x4x128x128 (Host.dynamicSlice S1x2x4x128x128 A p sliceFits_S64x2x4x128x128_S1x2x4x128x128) shapeCasts_S1x2x4x128x128_S2x4x128x128)

/-- A trip's stored states: the one before in the trip's row. -/
def store (A : FVec Ideal S64x2x4x128x128 .f32) (S : FVec Ideal S2x4x128x128 .f32) (p : Fin 5 → ℤ) : FVec Ideal S64x2x4x128x128 .f32 :=
  Host.dynamicUpdateSlice A (broadcastInDim S1x2x4x128x128 ![1, 2, 3, 4] bcast_S2x4x128x128_S1x2x4x128x128_1_2_3_4 S) p updateFits_S64x2x4x128x128_S1x2x4x128x128

theorem next_at (A C S) (k : ℕ) (hk : k < 64) (b : Fin 2) (h : Fin 4) (d e : Fin 128) :
    next A C S (place k) (ix4 b h d e) = (S (ix4 b h d e) * C (ix3 h 0 0) + A (ix5 ⟨k, hk⟩ b h d e) : EReal) := by
  pointwise [next]
  simp [clamped _ _ hk]

theorem store_at (A S) (k : ℕ) (hk : k < 64) (n : Fin 64) (b : Fin 2) (h : Fin 4) (d e : Fin 128) :
    store A S (place k) (ix5 n b h d e) = (if n.val = k then S (ix4 b h d e) else A (ix5 n b h d e) : EReal) := by
  pointwise [store]
  simp only [show n.val = k ↔ k ≤ n.val ∧ n.val ≤ k by omega]
  simp [clamped _ _ hk]

variable (m : (ℓ : Loc nD τ sig) → Buf (Elt Ideal) ℓ)

theorem atK_kv (c : Dev nD) (k : ℕ) : atK m k c (Proc.devRef .tc main_v64_0) = kv (X m c) :=
  (RetRun.trips_keep _ c main_v64_0 (by decide) k).trans (E_kv m c)

theorem atK_cdec (c : Dev nD) (k : ℕ) : atK m k c (Proc.devRef .tc main_v64_1) = cdec :=
  (RetRun.trips_keep _ c main_v64_1 (by decide) k).trans (E_cdec m c)

/-- The counter, as a number. -/
theorem iv_eq (k : ℕ) : Scf.iv 0#32 1#32 k = BitVec.ofNat 32 k := by
  simp [Scf.iv]

theorem state_succ (c : Dev nD) (k : ℕ) : atK m (k + 1) c (Proc.devRef .tc main_v64_3)
    = next (kv (X m c)) cdec (atK m k c (Proc.devRef .tc main_v64_3)) (place k) := by
  refine ((trip_agree (atK m k c) main_v64_3 (by decide)).trans (STEP_main_v64_3 _)).trans ?_
  unfold step_main_v64_3
  rw [atK_kv, atK_cdec, atK_ctr, iv_eq]
  rfl

theorem stored_succ (c : Dev nD) (k : ℕ) : atK m (k + 1) c (Proc.devRef .tc main_v64_4)
    = store (atK m k c (Proc.devRef .tc main_v64_4)) (atK m k c (Proc.devRef .tc main_v64_3)) (place k) := by
  refine ((trip_agree (atK m k c) main_v64_4 (by decide)).trans (STEP_main_v64_4 _)).trans ?_
  unfold step_main_v64_4
  rw [atK_ctr, iv_eq]
  rfl

/-- No state before the first trip. -/
theorem state_zero (c : Dev nD) : atK m 0 c (Proc.devRef .tc main_v64_3)
    = broadcastInDim S2x4x128x128 ![] bcast_S_S2x4x128x128 (constant (F := Ideal) S_ .f32 0x00000000#32) := by
  show entryContents preI m c _ = _
  simp only [entryContents, afterL_cons, afterL_nil]; after_results; rfl

theorem zero_at (i : S2x4x128x128.Idx) : broadcastInDim S2x4x128x128 ![] bcast_S_S2x4x128x128 (constant (F := Ideal) S_ .f32 0x00000000#32) i = (0 : EReal) := by
  pointwise

/-- The keys the reference uses: scaled. -/
def keys (X : FVec Ideal S16384x8192 .bf16) (b h : ℕ) : ℕ → ℕ → ℝ := fun t d => col (part X b 6656) h t d * scale

/-- The state after `n` chunks of sequence `b`, head `h`. -/
abbrev stAt (X : FVec Ideal S16384x8192 .bf16) (n b h d e : ℕ) : ℝ := RetMath.st (gam h) (keys X b h) (col (part X b 7168) h) (128 * n) d e

variable {m}

theorem state {c : Dev nD} (hX : Finite (X m c)) : ∀ n, n ≤ 64 → ∀ (b : Fin 2) (h : Fin 4) (d e : Fin 128),
    (atK m n c (Proc.devRef .tc main_v64_3) (ix4 b h d e) : EReal) = ((stAt (X m c) n b.val h.val d.val e.val : ℝ) : EReal)
  | 0, _, b, h, d, e => by
    rw [state_zero]
    refine (zero_at _).trans ?_
    unfold stAt
    rw [RetMath.st_zero]; rfl
  | n + 1, hn, b, h, d, e => by
    rw [state_succ]
    refine (next_at _ _ _ n (by omega) b h d e).trans ?_
    rw [kv_at]
    exact RetMath.st_step (state hX n (by omega) b h d e) (cdec_at h 0 0) (fun r => k_at hX b h ⟨n, by omega⟩ r d) (fun r => kw_at h r)
      (fun r => v_at hX b h ⟨n, by omega⟩ r e)

theorem stored {c : Dev nD} (hX : Finite (X m c)) : ∀ k, k ≤ 64 → ∀ (n : Fin 64), n.val < k → ∀ (b : Fin 2) (h : Fin 4) (d e : Fin 128),
    (atK m k c (Proc.devRef .tc main_v64_4) (ix5 n b h d e) : EReal) = ((stAt (X m c) n.val b.val h.val d.val e.val : ℝ) : EReal)
  | 0, _, n, hn, _, _, _, _ => absurd hn (Nat.not_lt_zero _)
  | k + 1, hk, n, hn, b, h, d, e => by
    rw [stored_succ]
    refine (store_at _ _ k (by omega) n b h d e).trans ?_
    by_cases e' : n.val = k
    · rw [if_pos e', e']
      exact state hX k (by omega) b h d e
    · rw [if_neg e']
      exact stored hX k (by omega) n (by omega) b h d e

end Cert.ReferenceIdeal.RetLoop
-- ==== Proof.RetPost.lean ====
/-
  The retention reference after its loop: the chunks' rows against the stored states, the norm over each head, the gate.
-/
module

public import proofs.«01_k».proof.Proof.RetLoop

@[expose] public section

set_option maxRecDepth 16384

noncomputable section

namespace Cert.ReferenceIdeal.RetPost

open Cert.RetMath (hd cl col entry part real Finite gam scale)
open Cert.ReferenceIdeal Cert.ReferenceIdeal.Gen Cert.ReferenceIdeal.Value Cert.ReferenceIdeal.RetEntry Cert.ReferenceIdeal.RetTerms Cert.ReferenceIdeal.RetLoop
open Idealize.ShloMosaic Idealize.ShloMosaic.TcCoe Idealize.SL.Sem Idealize.ShloMosaic.StableHlo

/-- The queries' weights, and what the states before the chunks give. -/
def qw : FVec Ideal S4x128 .f32 := Host.exp (mulf
  (broadcastInDim S4x128 ![0, 1] bcast_S1x128_S4x128_0_1 (broadcastInDim S1x128 ![1] bcast_S128_S1x128_1
    (addf pos (broadcastInDim S128 ![] bcast_S_S128 (constant S_ .f32 0x3F800000#32)))))
  (broadcastInDim S4x128 ![0, 1] bcast_S4x1_S4x128_0_1 lg))
def inter (X : FVec Ideal S16384x8192 .bf16) (S : FVec Ideal S64x2x4x128x128 .f32) : FVec Ideal S2x4x64x128x128 .f32 :=
  Host.dotGeneral dot_S2x4x64x128x128_S64x2x4x128x128_S2x4x64x128x128_4_3_3_4_012_120 none
    (mulf (Q X) (broadcastInDim S2x4x64x128x128 ![0, 1, 2, 3, 4] bcast_S1x4x1x128x1_S2x4x64x128x128_0_1_2_3_4
      (broadcastInDim S1x4x1x128x1 ![1, 3] bcast_S4x128_S1x4x1x128x1_1_3 qw))) S

/-- The retention's rows. -/
def rows (X : FVec Ideal S16384x8192 .bf16) (S : FVec Ideal S64x2x4x128x128 .f32) : FVec Ideal S2x4x8192x128 .f32 :=
  shapeCast S2x4x8192x128 (addf (intra X) (inter X S)) shapeCasts_S2x4x64x128x128_S2x4x8192x128

/-- Rows normed over the head and weighted, columns side by side. -/
def normed (O : FVec Ideal S2x4x8192x128 .f32) (N : FVec Ideal S4x128 .f32) : FVec Ideal S2x8192x512 .f32 :=
  shapeCast S2x8192x512 (transpose S2x8192x4x128 [0, 2, 1, 3] (mulf
    (mulf O (broadcastInDim S2x4x8192x128 ![0, 1, 2, 3] bcast_S2x4x8192x1_S2x4x8192x128_0_1_2_3 (Host.rsqrt (addf
      (Host.divf (broadcastInDim S2x4x8192x1 ![0, 1, 2] bcast_S2x4x8192_S2x4x8192x1_0_1_2
          (Host.reduceAdd (mulf O O) (constant S_ .f32 0x00000000#32) reducesTo_S2x4x8192x128_S2x4x8192_d3 h_S_))
        (broadcastInDim S2x4x8192x1 ![] bcast_S_S2x4x8192x1 (constant S_ .f32 0x43000000#32)))
      (broadcastInDim S2x4x8192x1 ![] bcast_S_S2x4x8192x1 (constant S_ .f32 0x358637BD#32))))))
    (broadcastInDim S2x4x8192x128 ![0, 1, 2, 3] bcast_S1x4x1x128_S2x4x8192x128_0_1_2_3
      (broadcastInDim S1x4x1x128 ![1, 2, 3] bcast_S4x1x128_S1x4x1x128_1_2_3 (broadcastInDim S4x1x128 ![0, 2] bcast_S4x128_S4x1x128_0_2 N))))
    transposes_S2x4x8192x128_S2x8192x4x128_0_2_1_3) shapeCasts_S2x8192x4x128_S2x8192x512

/-- The gate's factor. -/
def silu (A : FVec Ideal S2x8192x512 .f32) : FVec Ideal S2x8192x512 .f32 :=
  mulf A (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf A))))

def res (O : FVec Ideal S2x4x8192x128 .f32) (N : FVec Ideal S4x128 .f32) (A : FVec Ideal S2x8192x512 .f32) : FVec Ideal S16384x512 .bf16 :=
  truncf .bf16 (shapeCast S16384x512 (mulf (normed O N) (silu A)) shapeCasts_S2x8192x512_S16384x512) bitsLt_bf16_f32

variable (m : (ℓ : Loc nD τ sig) → Buf (Elt Ideal) ℓ)

def N (c : Dev nD) : FVec Ideal S4x128 .f32 := m ((c : Thread nD τ).loc main_arg1)

/-- The loop's stored states as it ends. -/
def S (c : Dev nD) : FVec Ideal S64x2x4x128x128 .f32 := atK m 64 c (Proc.devRef .tc main_v64_4)

theorem end_q (c : Dev nD) : RetRun.atEnd m c (Proc.devRef .tc main_v14) = Q (X m c) :=
  (RetRun.end_keep m c main_v14 (by decide)).trans (E_q m c)
theorem end_g (c : Dev nD) : RetRun.atEnd m c (Proc.devRef .tc main_v5) = G (X m c) :=
  (RetRun.end_keep m c main_v5 (by decide)).trans (E_g m c)
theorem end_lg (c : Dev nD) : RetRun.atEnd m c (Proc.devRef .tc main_v24) = lg :=
  (RetRun.end_keep m c main_v24 (by decide)).trans (E_lg m c)
theorem end_pos (c : Dev nD) : RetRun.atEnd m c (Proc.devRef .tc main_v25) = pos :=
  (RetRun.end_keep m c main_v25 (by decide)).trans (E_pos m c)
theorem end_intra (c : Dev nD) : RetRun.atEnd m c (Proc.devRef .tc main_v46) = intra (X m c) :=
  (RetRun.end_keep m c main_v46 (by decide)).trans (E_intra m c)
theorem end_n (c : Dev nD) : RetRun.atEnd m c (Proc.devRef .tc main_arg1) = N m c := by
  refine (RetRun.end_keep m c main_arg1 (by decide)).trans ?_
  simp only [entryContents, afterL_cons, afterL_nil]; after_results; rfl
theorem end_s (c : Dev nD) : RetRun.atEnd m c (Proc.devRef .tc main_v64_4) = S m c :=
  cond_keeps (atK m 64 c) main_v64_4 (by decide)

/-- The result's contents, from the arrays the loop and the operations before it leave. -/
theorem final (c : Dev nD) : finalContents condOps preI bodyI postI 64 m c (Proc.devRef .tc main_v97) = res (rows (X m c) (S m c)) (N m c) (G (X m c)) := by
  show afterL postI (RetRun.atEnd m c) (Proc.devRef .tc main_v97) = _
  have hq := end_q m c; have hg := end_g m c; have hl := end_lg m c; have hp := end_pos m c; have hi := end_intra m c
  have hn := end_n m c; have hs := end_s m c
  generalize RetRun.atEnd m c = W at *
  simp only [afterL_cons, afterL_nil]; after_results
  simp only [StableHlo.TRef.ofBuf_toBuf]
  rw [hq, hg, hl, hp, hi, hn, hs]
  rfl

end Cert.ReferenceIdeal.RetPost
-- ==== Proof.RetResult.lean ====
/-
  The retention reference's result: over finite activations every entry is the gated retention of its sequence and head.
-/
module

public import proofs.«01_k».proof.Proof.RetPost

@[expose] public section

set_option maxRecDepth 16384

noncomputable section

namespace Cert.ReferenceIdeal.RetResult

open Cert.RetMath (hd cl col entry part real Finite gam scale)
open Cert.ReferenceIdeal Cert.ReferenceIdeal.Gen Cert.ReferenceIdeal.Value Cert.ReferenceIdeal.RetEntry Cert.ReferenceIdeal.RetTerms Cert.ReferenceIdeal.RetLoop
  Cert.ReferenceIdeal.RetPost
open Idealize.ShloMosaic Idealize.ShloMosaic.TcCoe Idealize.SL.Sem Idealize.ShloMosaic.StableHlo

theorem qw_at (h : Fin 4) (r : Fin 128) : qw (ix2 h r) = ((gam h.val ^ (r.val + 1) : ℝ) : EReal) := by
  pointwise [qw]
  rw [lg_at, pos_at, ← EReal.coe_one, ← EReal.coe_add]
  refine Eq.trans ?_ (RetMath.exp_gam h.val (r.val + 1))
  rw [Nat.cast_add, Nat.cast_one]
  rfl

theorem rows_eq (X S) (b : Fin 2) (h : Fin 4) (t : Fin 8192) (e : Fin 128) (n : Fin 64) (i : Fin 128) (hn : n.val = t.val / 128) (hi : i.val = t.val % 128) :
    rows X S (ix4 b h t e) = intra X (ix5 b h n i e) + ∑ d : Fin 128, Q X (ix5 b h n i d) * qw (ix2 h i) * S (ix5 n b h d e) := by
  rw [show n = ⟨t.val / 128, by omega⟩ from Fin.ext hn, show i = ⟨t.val % 128, by omega⟩ from Fin.ext hi]
  pointwise [rows, inter]

variable {m : (ℓ : Loc nD τ sig) → Buf (Elt Ideal) ℓ}

/-- The retention's rows. -/
theorem rows_at {c : Dev nD} (hX : Finite (X m c)) (b : Fin 2) (h : Fin 4) (t : Fin 8192) (e : Fin 128) :
    rows (X m c) (S m c) (ix4 b h t e)
      = ((scale * RetMath.out (gam h.val) (col (part (X m c) b.val 6144) h.val) (col (part (X m c) b.val 6656) h.val) (col (part (X m c) b.val 7168) h.val) t.val e.val : ℝ) : EReal) := by
  rw [rows_eq _ _ b h t e ⟨t.val / 128, by omega⟩ ⟨t.val % 128, by omega⟩ rfl rfl, intra_at]
  refine (RetMath.out_step (a := 1) (k := keys (X m c) b.val h.val) (T := 128 * (t.val / 128)) (Nat.mod_lt t.val (by norm_num : 0 < 128))
    (fun d => q_at hX b h _ _ d) (fun j d => k_at hX b h _ j d) (fun j => v_at hX b h _ j e)
    (fun j => (dec_at h _ j).trans (by rw [mul_one])) (fun d => (qw_at h _).trans (by rw [mul_one]))
    (fun d => stored hX 64 le_rfl ⟨t.val / 128, by omega⟩ (by show t.val / 128 < 64; omega) b h d e)).trans ?_
  rw [one_mul, Nat.div_add_mod]
  unfold keys
  rw [RetMath.out_scaled]

/-- An entry of the result, from its row. -/
theorem res_at (O N A) (i : S16384x512.Idx) (b : Fin 2) (t : Fin 8192) (hb : b.val = (i 0).val / 8192) (ht : t.val = (i 0).val % 8192) :
    res O N A i = RetMath.gated (fun x => O (ix4 b (hd (i 1)) t x)) (N (ix2 (hd (i 1)) (cl (i 1)))) (A (ix3 b t (i 1))) (cl (i 1)) := by
  have h0 : (i 0).val < 16384 := (i 0).isLt
  rw [show b = ⟨(i 0).val / 8192, by omega⟩ from Fin.ext hb, show t = ⟨(i 0).val % 8192, by omega⟩ from Fin.ext ht]
  unfold RetMath.gated hd cl
  rw [zero_sub]
  pointwise [res, normed, silu]

/-- The result, over the argument arrays. -/
theorem result {c : Dev nD} (hX : Finite (X m c)) :
    finalContents condOps preI bodyI postI 64 m c (Proc.devRef .tc main_v97) = fun i : S16384x512.Idx => RetMath.result (X m c) (N m c) i := by
  rw [final]
  funext i
  have h0 : (i 0).val < 16384 := (i 0).isLt
  have hb : (i 0).val / 8192 < 2 := by omega
  have ht : (i 0).val % 8192 < 8192 := by omega
  rw [res_at _ _ _ i ⟨(i 0).val / 8192, hb⟩ ⟨(i 0).val % 8192, ht⟩ rfl rfl]
  unfold RetMath.result entry
  refine congrArg₂ (fun o g => RetMath.gated o (N m c (ix2 (hd (i 1)) (cl (i 1)))) g (cl (i 1))) (funext fun x => rows_at hX _ _ _ x) ?_
  refine (g_at _ _ _).trans (congrArg (X m c) (funext fun a => ?_))
  match a with
  | ⟨0, _⟩ => exact Fin.ext (by show (i 0).val / 8192 * 8192 + (i 0).val % 8192 = (i 0).val; omega)
  | ⟨1, _⟩ => rfl

end Cert.ReferenceIdeal.RetResult
-- ==== Proof.Retention.lean ====
/-
  The retention's equation: over finite queries, keys and values the kernel and the reference leave the same array.
-/
module

public import proofs.«01_k».proof.Proof.RetArray
public import proofs.«01_k».proof.Proof.RetPre
public import proofs.«01_k».proof.Proof.RetResult

@[expose] public section

set_option maxRecDepth 16384

noncomputable section

namespace Cert.Retention

open Idealize.ShloMosaic Idealize.ShloMosaic.TcCoe Idealize.SL.Sem

theorem algebraic_ret : Cert.algebraic_KernelIdeal_ReferenceIdeal_pre_finite_qkv := fun m ρ m' ρ' hpre hag =>
  ⟨_, (θ_run _ _ _).mono (fun _ h c => ⟨(h c).1.trans (Cert.KernelIdeal.RetArray.final (RetMath.finite_of_pre (hpre c))), (h c).2⟩)
      (Cert.KernelIdeal.Value.run_blocks (F := Ideal) m ρ),
    (θ_run _ _ _).mono (fun r h c => by
        have hX : RetMath.Finite (Cert.ReferenceIdeal.RetEntry.X m' c) := by
          unfold Cert.ReferenceIdeal.RetEntry.X
          rw [(hag c).1]
          exact RetMath.finite_of_pre (hpre c)
        refine ⟨((h.1 c Cert.ReferenceIdeal.main_v97 rfl).trans (Cert.ReferenceIdeal.RetResult.result hX)).trans ?_, h.2 c⟩
        unfold Cert.ReferenceIdeal.RetEntry.X Cert.ReferenceIdeal.RetPost.N
        rw [(hag c).1, (hag c).2]
        rfl)
      (θ_run_and (Cert.ReferenceIdeal.Value.run_fold (F := Ideal) m' ρ') (Cert.ReferenceIdeal.RetRun.run_kept (F := Ideal) m' ρ'))⟩

end Cert.Retention

end
-- ==== Proof.lean ====
/-
  The certificate: the frames of every program, that idealizing the retention kernel changes the four named decays only,
  and the value claims.
-/
module

public import proofs.«01_k».proof.Defs
public import proofs.«01_k».proof.Proof.Projections
public import proofs.«01_k».proof.Proof.Retention
public import proofs.«01_k».proof.Proof.Gen.Kernel.Frame
public import proofs.«01_k».proof.Proof.Gen.KernelIdeal.Frame
public import proofs.«01_k».proof.Proof.Gen.Pre_finite_qkv

@[expose] public section

set_option maxRecDepth 16384

noncomputable section

namespace Cert.Proof

open Idealize.ShloMosaic Idealize.SL.Sem

theorem frame_ret : Cert.quiescent_Kernel := fun m ρ _ => Cert.Kernel.Gen.frame (F := Bits) m ρ

theorem frame_ret_ideal : Cert.quiescent_KernelIdeal := fun m ρ _ => Cert.KernelIdeal.Gen.frame (F := Ideal) m ρ

/-- Each of the four decays of a chunk, `(1 - 2^(-5-h))^256`, is the word the kernel has, read as the number it stands for. -/
theorem preserves_ret : Cert.preserves_Kernel_KernelIdeal :=
  ⟨IdealRules.named_const.statement Cert.KernelIdeal.κ "decay0" .f32 0x399ACCA1#32 _ rfl,
    IdealRules.named_const.statement Cert.KernelIdeal.κ "decay1" .f32 0x3C9160A5#32 _ rfl,
    IdealRules.named_const.statement Cert.KernelIdeal.κ "decay2" .f32 0x3E097FCE#32 _ rfl,
    IdealRules.named_const.statement Cert.KernelIdeal.κ "decay3" .f32 0x3EBBFC5D#32 _ rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite_qkv.Gen.facts,
    frame_ret, frame_ret_ideal, fun m ρ _ => frame_ret_ideal m ρ trivial,
    Cert.ReferenceIdeal.RetRun.frame, fun m ρ _ => Cert.ReferenceIdeal.RetRun.frame m ρ trivial,
    Cert.Projections.frame_in, Cert.Projections.frame_in_ideal, Cert.Projections.frame_in_ref,
    Cert.Projections.frame_out, Cert.Projections.frame_out_ideal, Cert.Projections.frame_out_ref,
    Cert.Projections.frame_norm, Cert.Projections.frame_norm_ideal, Cert.Projections.frame_norm_ref,
    Cert.Projections.frame_both, Cert.Projections.frame_both_ideal, Cert.Projections.frame_both_ref,
    Cert.Projections.frame_prep, Cert.Projections.frame_prep_ideal, Cert.Projections.frame_prep_ref,
    preserves_ret, Cert.Retention.algebraic_ret, trivial, Cert.Projections.algebraic_in, trivial, Cert.Projections.algebraic_out,
    trivial, Cert.Projections.algebraic_norm, trivial, Cert.Projections.algebraic_both,
    trivial, Cert.Projections.algebraic_prep⟩

end Cert.Proof

end
